-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![64, 32768]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![32768, 2048]⟩ 0 32 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![2048, 32768]⟩ 1 32 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![64, 32768]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1024 : Shape := ⟨2, ![64, 1024]⟩
abbrev S1024x2048 : Shape := ⟨2, ![1024, 2048]⟩
abbrev S2048x1024 : Shape := ⟨2, ![2048, 1024]⟩
abbrev S2 : Shape := ⟨1, ![2]⟩
abbrev S2x64x1024 : Shape := ⟨3, ![2, 64, 1024]⟩
abbrev S15x64x1024 : Shape := ⟨3, ![15, 64, 1024]⟩
abbrev S15 : Shape := ⟨1, ![15]⟩
abbrev S1 : Shape := ⟨1, ![1]⟩
abbrev S_ : Shape := ⟨0, ![]⟩
abbrev S1024x1024 : Shape := ⟨2, ![1024, 1024]⟩
abbrev S1x64x1024 : Shape := ⟨3, ![1, 64, 1024]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .f32⟩
  | .local _ .vmem, ⟨0, _⟩ => ⟨S64x1024, .f32⟩
  | .local _ .vmem, ⟨1, _⟩ => ⟨S64x1024, .f32⟩
  | .local _ .vmem, ⟨2, _⟩ => ⟨S1024x2048, .f32⟩
  | .local _ .vmem, ⟨3, _⟩ => ⟨S2048x1024, .f32⟩
  | .local _ .vmem, ⟨4, _⟩ => ⟨S1024x2048, .bf16⟩
  | .local _ .vmem, ⟨5, _⟩ => ⟨S2048x1024, .bf16⟩
  | .local _ .vmem, ⟨6, _⟩ => ⟨S2x64x1024, .bf16⟩
  | .local _ .vmem, ⟨7, _⟩ => ⟨S15x64x1024, .bf16⟩
  | .local _ .vmem, ⟨8, _⟩ => ⟨S15x64x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 2 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v15 : BitVec 32 := Scalar.xori v2 c1_i32_5
  let c1_i32_7 : BitVec 32 := 1#32
  let v16 : BitVec 32 := Scalar.muli v15 c1_i32_7
  let v17 : BitVec 32 := Scalar.addi c0_i32_8 v16
  v17.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v18 : BitVec 32 := Scalar.xori v2 c2_i32
  let c1_i32_10 : BitVec 32 := 1#32
  let v19 : BitVec 32 := Scalar.muli v18 c1_i32_10
  let v20 : BitVec 32 := Scalar.addi c0_i32_11 v19
  v20.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v21 : BitVec 32 := Scalar.xori v2 c4_i32
  let c1_i32_13 : BitVec 32 := 1#32
  let v22 : BitVec 32 := Scalar.muli v21 c1_i32_13
  let v23 : BitVec 32 := Scalar.addi c0_i32_14 v22
  v23.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v24 : BitVec 32 := Scalar.xori v2 c8_i32
  let c1_i32_16 : BitVec 32 := 1#32
  let v25 : BitVec 32 := Scalar.muli v24 c1_i32_16
  let v26 : BitVec 32 := Scalar.addi c0_i32_17 v25
  v26.toNat
def k0_dev5 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.xori v2 c16_i32
  let c1_i32_19 : BitVec 32 := 1#32
  let v28 : BitVec 32 := Scalar.muli v27 c1_i32_19
  let v29 : BitVec 32 := Scalar.addi c0_i32_20 v28
  v29.toNat
def k0_dev6 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_28 : BitVec 32 := 1#32
  let v39 : BitVec 32 := Scalar.xori v2 c1_i32_28
  let c1_i32_34 : BitVec 32 := 1#32
  let v41 : BitVec 32 := Scalar.muli v39 c1_i32_34
  let v42 : BitVec 32 := Scalar.addi c0_i32_35 v41
  v42.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_29 : BitVec 32 := 8#32
  let v40 : BitVec 32 := Scalar.xori v2 c8_i32_29
  let c1_i32_48 : BitVec 32 := 1#32
  let v57 : BitVec 32 := Scalar.muli v40 c1_i32_48
  let v58 : BitVec 32 := Scalar.addi c0_i32_49 v57
  v58.toNat
def k0_dev8 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_109 : BitVec 32 := 2#32
  let v118 : BitVec 32 := Scalar.xori v2 c2_i32_109
  let c1_i32_115 : BitVec 32 := 1#32
  let v120 : BitVec 32 := Scalar.muli v118 c1_i32_115
  let v121 : BitVec 32 := Scalar.addi c0_i32_116 v120
  v121.toNat
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_110 : BitVec 32 := 16#32
  let v119 : BitVec 32 := Scalar.xori v2 c16_i32_110
  let c1_i32_125 : BitVec 32 := 1#32
  let v130 : BitVec 32 := Scalar.muli v119 c1_i32_125
  let v131 : BitVec 32 := Scalar.addi c0_i32_126 v130
  v131.toNat
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_182 : BitVec 32 := 8#32
  let v186 : BitVec 32 := Scalar.xori v2 c8_i32_182
  let c1_i32_188 : BitVec 32 := 1#32
  let v188 : BitVec 32 := Scalar.muli v186 c1_i32_188
  let v189 : BitVec 32 := Scalar.addi c0_i32_189 v188
  v189.toNat
def k0_dev11 (d0 : Dev nD) : Nat :=
  let c0_i32_199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_183 : BitVec 32 := 2#32
  let v187 : BitVec 32 := Scalar.xori v2 c2_i32_183
  let c1_i32_198 : BitVec 32 := 1#32
  let v198 : BitVec 32 := Scalar.muli v187 c1_i32_198
  let v199 : BitVec 32 := Scalar.addi c0_i32_199 v198
  v199.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_258 : BitVec 32 := 16#32
  let v259 : BitVec 32 := Scalar.xori v2 c16_i32_258
  let c1_i32_263 : BitVec 32 := 1#32
  let v261 : BitVec 32 := Scalar.muli v259 c1_i32_263
  let v262 : BitVec 32 := Scalar.addi c0_i32_264 v261
  v262.toNat
def k0_dev13 (d0 : Dev nD) : Nat :=
  let c0_i32_274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_259 : BitVec 32 := 4#32
  let v260 : BitVec 32 := Scalar.xori v2 c4_i32_259
  let c1_i32_273 : BitVec 32 := 1#32
  let v271 : BitVec 32 := Scalar.muli v260 c1_i32_273
  let v272 : BitVec 32 := Scalar.addi c0_i32_274 v271
  v272.toNat
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_329 : BitVec 32 := 4#32
  let v327 : BitVec 32 := Scalar.xori v2 c4_i32_329
  let c1_i32_335 : BitVec 32 := 1#32
  let v329 : BitVec 32 := Scalar.muli v327 c1_i32_335
  let v330 : BitVec 32 := Scalar.addi c0_i32_336 v329
  v330.toNat
def k0_dev15 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_330 : BitVec 32 := 1#32
  let v328 : BitVec 32 := Scalar.xori v2 c1_i32_330
  let c1_i32_345 : BitVec 32 := 1#32
  let v339 : BitVec 32 := Scalar.muli v328 c1_i32_345
  let v340 : BitVec 32 := Scalar.addi c0_i32_346 v339
  v340.toNat
def k0_dev16 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_408 : BitVec 32 := 1#32
  let v403 : BitVec 32 := Scalar.xori v2 c1_i32_408
  let c1_i32_414 : BitVec 32 := 1#32
  let v405 : BitVec 32 := Scalar.muli v403 c1_i32_414
  let v406 : BitVec 32 := Scalar.addi c0_i32_415 v405
  v406.toNat
def k0_dev17 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_409 : BitVec 32 := 8#32
  let v404 : BitVec 32 := Scalar.xori v2 c8_i32_409
  let c1_i32_430 : BitVec 32 := 1#32
  let v421 : BitVec 32 := Scalar.muli v404 c1_i32_430
  let v422 : BitVec 32 := Scalar.addi c0_i32_431 v421
  v422.toNat
def k0_dev18 (d0 : Dev nD) : Nat :=
  let c0_i32_496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_490 : BitVec 32 := 2#32
  let v482 : BitVec 32 := Scalar.xori v2 c2_i32_490
  let c1_i32_495 : BitVec 32 := 1#32
  let v484 : BitVec 32 := Scalar.muli v482 c1_i32_495
  let v485 : BitVec 32 := Scalar.addi c0_i32_496 v484
  v485.toNat
def k0_dev19 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_491 : BitVec 32 := 16#32
  let v483 : BitVec 32 := Scalar.xori v2 c16_i32_491
  let c1_i32_505 : BitVec 32 := 1#32
  let v494 : BitVec 32 := Scalar.muli v483 c1_i32_505
  let v495 : BitVec 32 := Scalar.addi c0_i32_506 v494
  v495.toNat
def k0_dev20 (d0 : Dev nD) : Nat :=
  let c0_i32_567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_561 : BitVec 32 := 8#32
  let v550 : BitVec 32 := Scalar.xori v2 c8_i32_561
  let c1_i32_566 : BitVec 32 := 1#32
  let v552 : BitVec 32 := Scalar.muli v550 c1_i32_566
  let v553 : BitVec 32 := Scalar.addi c0_i32_567 v552
  v553.toNat
def k0_dev21 (d0 : Dev nD) : Nat :=
  let c0_i32_577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_562 : BitVec 32 := 2#32
  let v551 : BitVec 32 := Scalar.xori v2 c2_i32_562
  let c1_i32_576 : BitVec 32 := 1#32
  let v562 : BitVec 32 := Scalar.muli v551 c1_i32_576
  let v563 : BitVec 32 := Scalar.addi c0_i32_577 v562
  v563.toNat
def k0_dev22 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_636 : BitVec 32 := 16#32
  let v623 : BitVec 32 := Scalar.xori v2 c16_i32_636
  let c1_i32_642 : BitVec 32 := 1#32
  let v625 : BitVec 32 := Scalar.muli v623 c1_i32_642
  let v626 : BitVec 32 := Scalar.addi c0_i32_643 v625
  v626.toNat
def k0_dev23 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_637 : BitVec 32 := 4#32
  let v624 : BitVec 32 := Scalar.xori v2 c4_i32_637
  let c1_i32_652 : BitVec 32 := 1#32
  let v635 : BitVec 32 := Scalar.muli v624 c1_i32_652
  let v636 : BitVec 32 := Scalar.addi c0_i32_653 v635
  v636.toNat
def k0_dev24 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_708 : BitVec 32 := 4#32
  let v691 : BitVec 32 := Scalar.xori v2 c4_i32_708
  let c1_i32_713 : BitVec 32 := 1#32
  let v693 : BitVec 32 := Scalar.muli v691 c1_i32_713
  let v694 : BitVec 32 := Scalar.addi c0_i32_714 v693
  v694.toNat
def k0_dev25 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_709 : BitVec 32 := 1#32
  let v692 : BitVec 32 := Scalar.xori v2 c1_i32_709
  let c1_i32_723 : BitVec 32 := 1#32
  let v703 : BitVec 32 := Scalar.muli v692 c1_i32_723
  let v704 : BitVec 32 := Scalar.addi c0_i32_724 v703
  v704.toNat
def k0_dev26 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_786 : BitVec 32 := 1#32
  let v767 : BitVec 32 := Scalar.xori v2 c1_i32_786
  let c1_i32_791 : BitVec 32 := 1#32
  let v769 : BitVec 32 := Scalar.muli v767 c1_i32_791
  let v770 : BitVec 32 := Scalar.addi c0_i32_792 v769
  v770.toNat
def k0_dev27 (d0 : Dev nD) : Nat :=
  let c0_i32_808 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_787 : BitVec 32 := 8#32
  let v768 : BitVec 32 := Scalar.xori v2 c8_i32_787
  let c1_i32_807 : BitVec 32 := 1#32
  let v785 : BitVec 32 := Scalar.muli v768 c1_i32_807
  let v786 : BitVec 32 := Scalar.addi c0_i32_808 v785
  v786.toNat
def k0_dev28 (d0 : Dev nD) : Nat :=
  let c0_i32_873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_867 : BitVec 32 := 2#32
  let v846 : BitVec 32 := Scalar.xori v2 c2_i32_867
  let c1_i32_872 : BitVec 32 := 1#32
  let v848 : BitVec 32 := Scalar.muli v846 c1_i32_872
  let v849 : BitVec 32 := Scalar.addi c0_i32_873 v848
  v849.toNat
def k0_dev29 (d0 : Dev nD) : Nat :=
  let c0_i32_883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_868 : BitVec 32 := 16#32
  let v847 : BitVec 32 := Scalar.xori v2 c16_i32_868
  let c1_i32_882 : BitVec 32 := 1#32
  let v858 : BitVec 32 := Scalar.muli v847 c1_i32_882
  let v859 : BitVec 32 := Scalar.addi c0_i32_883 v858
  v859.toNat
def k0_dev30 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_937 : BitVec 32 := 8#32
  let v912 : BitVec 32 := Scalar.xori v2 c8_i32_937
  let c1_i32_942 : BitVec 32 := 1#32
  let v914 : BitVec 32 := Scalar.muli v912 c1_i32_942
  let v915 : BitVec 32 := Scalar.addi c0_i32_943 v914
  v915.toNat
def k0_dev31 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_938 : BitVec 32 := 2#32
  let v913 : BitVec 32 := Scalar.xori v2 c2_i32_938
  let c1_i32_952 : BitVec 32 := 1#32
  let v924 : BitVec 32 := Scalar.muli v913 c1_i32_952
  let v925 : BitVec 32 := Scalar.addi c0_i32_953 v924
  v925.toNat
def k0_dev32 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1007 : BitVec 32 := 16#32
  let v978 : BitVec 32 := Scalar.xori v2 c16_i32_1007
  let c1_i32_1012 : BitVec 32 := 1#32
  let v980 : BitVec 32 := Scalar.muli v978 c1_i32_1012
  let v981 : BitVec 32 := Scalar.addi c0_i32_1013 v980
  v981.toNat
def k0_dev33 (d0 : Dev nD) : Nat :=
  let c0_i32_1023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1008 : BitVec 32 := 4#32
  let v979 : BitVec 32 := Scalar.xori v2 c4_i32_1008
  let c1_i32_1022 : BitVec 32 := 1#32
  let v990 : BitVec 32 := Scalar.muli v979 c1_i32_1022
  let v991 : BitVec 32 := Scalar.addi c0_i32_1023 v990
  v991.toNat
def k0_dev34 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1077 : BitVec 32 := 4#32
  let v1044 : BitVec 32 := Scalar.xori v2 c4_i32_1077
  let c1_i32_1082 : BitVec 32 := 1#32
  let v1046 : BitVec 32 := Scalar.muli v1044 c1_i32_1082
  let v1047 : BitVec 32 := Scalar.addi c0_i32_1083 v1046
  v1047.toNat
def k0_dev35 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1078 : BitVec 32 := 1#32
  let v1045 : BitVec 32 := Scalar.xori v2 c1_i32_1078
  let c1_i32_1092 : BitVec 32 := 1#32
  let v1056 : BitVec 32 := Scalar.muli v1045 c1_i32_1092
  let v1057 : BitVec 32 := Scalar.addi c0_i32_1093 v1056
  v1057.toNat
def k0_dev36 (d0 : Dev nD) : Nat :=
  let c0_i32_1154_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1151_r0 : BitVec 32 := 1#32
  let v1115_r0 : BitVec 32 := Scalar.xori v2 c1_i32_1151_r0
  let c1_i32_1153_r0 : BitVec 32 := 1#32
  let v1116_r0 : BitVec 32 := Scalar.muli v1115_r0 c1_i32_1153_r0
  let v1117_r0 : BitVec 32 := Scalar.addi c0_i32_1154_r0 v1116_r0
  v1117_r0.toNat
def k0_dev37 (d0 : Dev nD) : Nat :=
  let c0_i32_1158_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1155_r0 : BitVec 32 := 2#32
  let v1118_r0 : BitVec 32 := Scalar.xori v2 c2_i32_1155_r0
  let c1_i32_1157_r0 : BitVec 32 := 1#32
  let v1119_r0 : BitVec 32 := Scalar.muli v1118_r0 c1_i32_1157_r0
  let v1120_r0 : BitVec 32 := Scalar.addi c0_i32_1158_r0 v1119_r0
  v1120_r0.toNat
def k0_dev38 (d0 : Dev nD) : Nat :=
  let c0_i32_1162_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1159_r0 : BitVec 32 := 4#32
  let v1121_r0 : BitVec 32 := Scalar.xori v2 c4_i32_1159_r0
  let c1_i32_1161_r0 : BitVec 32 := 1#32
  let v1122_r0 : BitVec 32 := Scalar.muli v1121_r0 c1_i32_1161_r0
  let v1123_r0 : BitVec 32 := Scalar.addi c0_i32_1162_r0 v1122_r0
  v1123_r0.toNat
def k0_dev39 (d0 : Dev nD) : Nat :=
  let c0_i32_1166_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1163_r0 : BitVec 32 := 8#32
  let v1124_r0 : BitVec 32 := Scalar.xori v2 c8_i32_1163_r0
  let c1_i32_1165_r0 : BitVec 32 := 1#32
  let v1125_r0 : BitVec 32 := Scalar.muli v1124_r0 c1_i32_1165_r0
  let v1126_r0 : BitVec 32 := Scalar.addi c0_i32_1166_r0 v1125_r0
  v1126_r0.toNat
def k0_dev40 (d0 : Dev nD) : Nat :=
  let c0_i32_1170_r0 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1167_r0 : BitVec 32 := 16#32
  let v1127_r0 : BitVec 32 := Scalar.xori v2 c16_i32_1167_r0
  let c1_i32_1169_r0 : BitVec 32 := 1#32
  let v1128_r0 : BitVec 32 := Scalar.muli v1127_r0 c1_i32_1169_r0
  let v1129_r0 : BitVec 32 := Scalar.addi c0_i32_1170_r0 v1128_r0
  v1129_r0.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S64x32768 : Shape := ⟨2, ![64, 32768]⟩
abbrev S32768x2048 : Shape := ⟨2, ![32768, 2048]⟩
abbrev S2048x32768 : Shape := ⟨2, ![2048, 32768]⟩
abbrev S64x2048 : Shape := ⟨2, ![64, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x32768, .f32⟩
  | .hbm, ⟨1, _⟩ => ⟨S32768x2048, .f32⟩
  | .hbm, ⟨2, _⟩ => ⟨S2048x32768, .f32⟩
  | .hbm, ⟨3, _⟩ => ⟨S32768x2048, .f32⟩
  | .hbm, ⟨4, _⟩ => ⟨S2048x32768, .f32⟩
  | .hbm, ⟨5, _⟩ => ⟨S32768x2048, .f32⟩
  | .hbm, ⟨6, _⟩ => ⟨S2048x32768, .f32⟩
  | .hbm, ⟨7, _⟩ => ⟨S64x2048, .f32⟩
  | .hbm, ⟨8, _⟩ => ⟨S_, .f32⟩
  | .hbm, ⟨9, _⟩ => ⟨S64x2048, .f32⟩
  | .hbm, ⟨10, _⟩ => ⟨S64x2048, .f32⟩
  | .hbm, ⟨11, _⟩ => ⟨S64x32768, .f32⟩
  | .hbm, ⟨12, _⟩ => ⟨S64x2048, .f32⟩
  | .hbm, ⟨13, _⟩ => ⟨S_, .f32⟩
  | .hbm, ⟨14, _⟩ => ⟨S64x2048, .f32⟩
  | .hbm, ⟨15, _⟩ => ⟨S64x2048, .f32⟩
  | .hbm, ⟨16, _⟩ => ⟨S64x32768, .f32⟩
  | .hbm, ⟨17, _⟩ => ⟨S64x2048, .f32⟩
  | .hbm, ⟨18, _⟩ => ⟨S_, .f32⟩
  | .hbm, ⟨19, _⟩ => ⟨S64x2048, .f32⟩
  | .hbm, ⟨20, _⟩ => ⟨S64x2048, .f32⟩
  | .hbm, ⟨21, _⟩ => ⟨S64x32768, .f32⟩
  | _, _ => ⟨S64x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Cells.lean ====
/-
The names of the kernel's protocol: which device a device talks to, which piece of which buffer a
transfer touches, and which semaphores count it.

The kernel runs fifteen exchanges for each of two column halves.  The exchanges are numbered
`i = 0 … 29`: the exchange `i` is stage `i / 2` of half `i % 2`, in the order in which a device
starts them.  Stage `k` is stage `k % 5` of layer `k / 5`.  In exchange `i` every device sends one
half of its send buffer to its partner, the device whose number differs from its own in the one bit
`bitOf i`, and the block lands in slot `i / 2` of the partner's receive buffer of that half.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.ShloMosaic.Rounds

/-! ## The devices -/

/-- The device whose number differs from `c`'s in bit `b`. -/
def px (b : Fin 5) (c : Dev nD) : Dev nD := Fin.ofNat 32 (c.val ^^^ 2 ^ b.val)

theorem px_px : ∀ (b : Fin 5) (c : Dev nD), px b (px b c) = c := by decide +kernel

/-- The exchange with the partner of bit `b`, as a permutation of the devices. -/
def pxEquiv (b : Fin 5) : Dev nD ≃ Dev nD := ⟨px b, px b, px_px b, px_px b⟩

/-- The bit of the partner in exchange `i`: half 0 runs through the bits 0, 1, 3, 4, 2 and half 1
    through 3, 4, 1, 2, 0. -/
def bitOf (i : ℕ) : Fin 5 :=
  cond (Nat.beq (i % 2) 0) ((![0, 1, 3, 4, 2] : Fin 5 → Fin 5) (Fin.ofNat 5 (i / 2)))
    ((![3, 4, 1, 2, 0] : Fin 5 → Fin 5) (Fin.ofNat 5 (i / 2)))

/-- The partner of device `c` in exchange `i`. -/
abbrev pa (i : ℕ) (c : Dev nD) : Dev nD := px (bitOf i) c

/-! ## The pieces of the buffers -/

theorem inb_slot (k : ℕ) (h : k < 15) : ∀ a, (![k, 0, 0] : Fin 3 → ℕ) a + S1x64x1024.size a ≤ S15x64x1024.size a := by
  intro a; fin_cases a <;> simp <;> omega
theorem inb_half (k : ℕ) (h : k < 2) : ∀ a, (![k, 0, 0] : Fin 3 → ℕ) a + S1x64x1024.size a ≤ S2x64x1024.size a := by
  intro a; fin_cases a <;> simp <;> omega

/-- The receive buffer of exchange `i`'s half. -/
abbrev recvArr (i : ℕ) : Memref sig .tc .vmem S15x64x1024 .bf16 :=
  cond (Nat.beq (i % 2) 0) (Memref.whole cc0_scratch6) (Memref.whole cc0_scratch7)

/-- Where exchange `i`'s slot lies in its receive buffer. -/
abbrev slotRect (i : ℕ) : Rect S15x64x1024 :=
  Rect.unit (s := S15x64x1024) ![i / 2 % 15, 0, 0] S1x64x1024.size (inb_slot _ (Nat.mod_lt _ (by decide)))
/-- Exchange `i`'s slot, -/
abbrev slotM (i : ℕ) : Memref sig .tc .vmem S1x64x1024 .bf16 := (recvArr i).slice (slotRect i) (fun _ => rfl)
/-- and without its leading axis of one, as the transfers name it. -/
abbrev slotQ (i : ℕ) : Memref sig .tc .vmem S64x1024 .bf16 := (slotM i).squeeze S64x1024 squeezes_S1x64x1024_S64x1024

/-- Where the half of exchange `i` lies in the send buffer. -/
abbrev sendRect (i : ℕ) : Rect S2x64x1024 :=
  Rect.unit (s := S2x64x1024) ![i % 2, 0, 0] S1x64x1024.size (inb_half _ (Nat.mod_lt _ (by decide)))
/-- The half of the send buffer that exchange `i` sends, -/
abbrev sendM (i : ℕ) : Memref sig .tc .vmem S1x64x1024 .bf16 := (Memref.whole cc0_scratch5).slice (sendRect i) (fun _ => rfl)
/-- and without its leading axis of one. -/
abbrev sendQ (i : ℕ) : Memref sig .tc .vmem S64x1024 .bf16 := (sendM i).squeeze S64x1024 squeezes_S1x64x1024_S64x1024

/-- The columns `1024 h …` of an input weight, -/
abbrev colRect (h : ℕ) : Rect S1024x2048 :=
  Rect.unit (s := S1024x2048) ![0, 1024 * (h % 2)] S1024x1024.size (by
    have h2 := Nat.mod_lt h (show 2 > 0 by decide)
    intro a; fin_cases a <;> simp <;> omega)
/-- and the rows `1024 h …` of an output weight. -/
abbrev rowRect (h : ℕ) : Rect S2048x1024 :=
  Rect.unit (s := S2048x1024) ![1024 * (h % 2), 0] S1024x1024.size (by
    have h2 := Nat.mod_lt h (show 2 > 0 by decide)
    intro a; fin_cases a <;> simp <;> omega)

/-- Layer `l`'s input weight and its output weight, in HBM. -/
def winM : ℕ → Memref sig .tc .hbm S1024x2048 .f32
  | 0 => Memref.whole main_arg1
  | 1 => Memref.whole main_arg3
  | _ => Memref.whole main_arg5
def woutM : ℕ → Memref sig .tc .hbm S2048x1024 .f32
  | 0 => Memref.whole main_arg2
  | 1 => Memref.whole main_arg4
  | _ => Memref.whole main_arg6

abbrev xM : Memref sig .tc .vmem S64x1024 .f32 := Memref.whole cc0_stg0_0
abbrev oM : Memref sig .tc .vmem S64x1024 .f32 := Memref.whole cc0_stg1_0
abbrev wiM : Memref sig .tc .vmem S1024x2048 .f32 := Memref.whole cc0_scratch0
abbrev woM : Memref sig .tc .vmem S2048x1024 .f32 := Memref.whole cc0_scratch1
abbrev wibM : Memref sig .tc .vmem S1024x2048 .bf16 := Memref.whole cc0_scratch2
abbrev wobM : Memref sig .tc .vmem S2048x1024 .bf16 := Memref.whole cc0_scratch3

/-! ## The semaphores and what a transfer counts -/

/-- The semaphore of exchange `i` on its sender, and the one on its receiver. -/
def sndD (i : ℕ) : DmaSem sig := Fin.ofNat 64 (4 + 30 * (i % 2) + i / 2)
def rcvD (i : ℕ) : DmaSem sig := Fin.ofNat 64 (19 + 30 * (i % 2) + i / 2)

/-- The exchange that a semaphore of the exchanges counts, and whether it is its receiver's. -/
def slotOf (q : ℕ) : ℕ := 2 * ((q - 4) % 15) + (q - 4) / 30
def isRcv (q : ℕ) : Bool := Nat.ble 15 ((q - 4) % 30)

theorem sndD_val {i : ℕ} (h : i < 30) : (sndD i).val = 4 + 30 * (i % 2) + i / 2 := Nat.mod_eq_of_lt (by omega)
theorem rcvD_val {i : ℕ} (h : i < 30) : (rcvD i).val = 19 + 30 * (i % 2) + i / 2 := Nat.mod_eq_of_lt (by omega)
theorem slotOf_snd : ∀ i < 30, slotOf (sndD i).val = i := by decide +kernel
theorem slotOf_rcv : ∀ i < 30, slotOf (rcvD i).val = i := by decide +kernel
theorem isRcv_snd : ∀ i < 30, isRcv (sndD i).val = false := by decide +kernel
theorem isRcv_rcv : ∀ i < 30, isRcv (rcvD i).val = true := by decide +kernel
theorem four_le_snd {i : ℕ} (h : i < 30) : 4 ≤ (sndD i).val := by rw [sndD_val h]; omega
theorem four_le_rcv {i : ℕ} (h : i < 30) : 4 ≤ (rcvD i).val := by rw [rcvD_val h]; omega

/-- The barrier semaphore and the semaphore of the closing handshake; the two of the local copies. -/
abbrev barS : Sem sig := 0
abbrev secS : Sem sig := 1
abbrev cpiD : DmaSem sig := 2
abbrev cpoD : DmaSem sig := 3

abbrev barC (c : Dev nD) : GSem nD τ sig := ((c : Thread nD τ), .reg barS)
abbrev secC (c : Dev nD) : GSem nD τ sig := ((c : Thread nD τ), .reg secS)
abbrev cpiC (c : Dev nD) : GSem nD τ sig := ((c : Thread nD τ), .dma cpiD)
abbrev cpoC (c : Dev nD) : GSem nD τ sig := ((c : Thread nD τ), .dma cpoD)
abbrev sndC (i : ℕ) (c : Dev nD) : GSem nD τ sig := ((c : Thread nD τ), .dma (sndD i))
abbrev rcvC (i : ℕ) (c : Dev nD) : GSem nD τ sig := ((c : Thread nD τ), .dma (rcvD i))

/-- The counts of one exchanged block, of an input weight and of an output weight. -/
abbrev N : ℕ := (slotQ 0).view.dmaCredit
abbrev Ni : ℕ := wiM.view.dmaCredit
abbrev No : ℕ := woM.view.dmaCredit

theorem N_pos : 0 < N := View.dmaCredit_pos _ (by decide)
theorem Ni_pos : 0 < Ni := View.dmaCredit_pos _ (by decide)
theorem No_pos : 0 < No := View.dmaCredit_pos _ (by decide)

theorem credit_slot (i : ℕ) : (slotQ i).view.dmaCredit = N := by
  unfold N slotQ slotM recvArr; cases (i % 2).beq 0 <;> rfl
theorem credit_send (i : ℕ) : (sendQ i).view.dmaCredit = N := rfl

end Cert.Mlp

end
-- ==== Proof.Contents.lean ====
/-
What the kernel's buffers hold, as functions of the arguments: generic over the interpretation of the
floating-point types, so that the run proved with them is the run at both.

For one layer: every device forms its product of the layer's input with its rows of the input
weight, one half of the columns at a time (`part`); five exchanges replace what it holds by the sum
of what it and its partner hold, the partner's part having passed through bf16 (`acc`); the two sums
through relu meet the two halves of the rows of the device's output weight (`lout`).
-/
module

public import proofs.«01_k».proof.Proof.Cells

@[expose] public section

noncomputable section

namespace Cert.Mlp

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The block of the first argument that the pipeline stages on device `c`. -/
def xstg (c : Dev nD) : (cc0_stg0_0 : Ref sig .tc).ty.Contents (Elt F) :=
  (win0_0.blk (0 : Fin 1)).view.read (Elt F) (m ((c : Thread nD τ).loc main_arg0))

/-- Device `c`'s input weight and output weight of layer `l`, -/
def winAt (l : ℕ) (c : Dev nD) : Vec F S1024x2048 .f32 := (winM l).view.read (Elt F) (m ((winM l).view.loc (c : Thread nD τ)))
def woutAt (l : ℕ) (c : Dev nD) : Vec F S2048x1024 .f32 := (woutM l).view.read (Elt F) (m ((woutM l).view.loc (c : Thread nD τ)))
/-- and in bf16. -/
def winB (l : ℕ) (c : Dev nD) : FVec F S1024x2048 .bf16 :=
  shapeCast S1024x2048 (truncf .bf16 (winAt m l c : FVec F S1024x2048 .f32) bitsLt_bf16_f32) shapeCasts_S1024x2048_S1024x2048
def woutB (l : ℕ) (c : Dev nD) : FVec F S2048x1024 .bf16 :=
  shapeCast S2048x1024 (truncf .bf16 (woutAt m l c : FVec F S2048x1024 .f32) bitsLt_bf16_f32) shapeCasts_S2048x1024_S2048x1024

/-- Half `h` of an input weight's columns, and of an output weight's rows. -/
def cols (h : ℕ) (w : FVec F S1024x2048 .bf16) : FVec F S1024x1024 .bf16 := (wibM.access (colRect h)).read (Elt F) w
def rows (h : ℕ) (w : FVec F S2048x1024 .bf16) : FVec F S1024x1024 .bf16 := (wobM.access (rowRect h)).read (Elt F) w

/-- A block as it is sent: in bf16, with a leading axis of one; -/
def sent (a : FVec F S64x1024 .f32) : FVec F S1x64x1024 .bf16 :=
  shapeCast S1x64x1024 (truncf .bf16 a bitsLt_bf16_f32) shapeCasts_S64x1024_S1x64x1024
/-- what the receiver makes of it: the sum with its own block. -/
def joined (a : FVec F S64x1024 .f32) (b : FVec F S1x64x1024 .bf16) : FVec F S64x1024 .f32 :=
  addf a (extf .f32 (shapeCast S64x1024 b shapeCasts_S1x64x1024_S64x1024) bitsLt_bf16_f32)

/-- The product of a bf16 block with a bf16 weight, accumulated from zero. -/
def mm (a : FVec F S64x1024 .bf16) (w : FVec F S1024x1024 .bf16) : FVec F S64x1024 .f32 :=
  matmul dot_S64x1024_S1024x1024_S64x1024_1_0_0_1_n_n none a w (constant S64x1024 .f32 0x00000000#32)

/-- What is carried into an output product: the positive part, in bf16. -/
def actv (a : FVec F S64x1024 .f32) : FVec F S64x1024 .bf16 :=
  truncf .bf16 (maximumf a (broadcast S64x1024 (Scalar.ofBits .f32 0x00000000#32))) bitsLt_bf16_f32

/-- What device `c` holds of half `h` after `s` exchanges of a layer with inputs `X` and input
    weights `W` (one for each device). -/
def acc (X : Dev nD → FVec F S64x1024 .bf16) (W : Dev nD → FVec F S1024x2048 .bf16) (h : ℕ) (s : ℕ) : Dev nD → FVec F S64x1024 .f32 :=
  Nat.rec (fun c => mm (X c) (cols h (W c))) (fun t ih c => joined (ih c) (sent (ih (pa (2 * t + h) c)))) s

theorem acc_zero (X : Dev nD → FVec F S64x1024 .bf16) (W : Dev nD → FVec F S1024x2048 .bf16) (h : ℕ) (c : Dev nD) :
    acc X W h 0 c = mm (X c) (cols h (W c)) := rfl
theorem acc_succ (X : Dev nD → FVec F S64x1024 .bf16) (W : Dev nD → FVec F S1024x2048 .bf16) (h s : ℕ) (c : Dev nD) :
    acc X W h (s + 1) c = joined (acc X W h s c) (sent (acc X W h s (pa (2 * s + h) c))) := rfl

/-- A layer's result on device `c`. -/
def lout (X : Dev nD → FVec F S64x1024 .bf16) (W : Dev nD → FVec F S1024x2048 .bf16) (V : Dev nD → FVec F S2048x1024 .bf16) (c : Dev nD) :
    FVec F S64x1024 .f32 :=
  addf (mm (actv (acc X W 0 5 c)) (rows 0 (V c))) (mm (actv (acc X W 1 5 c)) (rows 1 (V c)))

/-- The input of layer `l` on device `c`, in bf16. -/
def xin (l : ℕ) : Dev nD → FVec F S64x1024 .bf16 :=
  Nat.rec (fun c => truncf .bf16 (shapeCast S64x1024 (xstg m c : Vec F S64x1024 .f32) shapeCasts_S64x1024_S64x1024) bitsLt_bf16_f32)
    (fun t ih c => truncf .bf16 (lout ih (winB m t) (woutB m t) c) bitsLt_bf16_f32) l

theorem xin_zero (c : Dev nD) :
    xin m 0 c = truncf .bf16 (shapeCast S64x1024 (xstg m c : Vec F S64x1024 .f32) shapeCasts_S64x1024_S64x1024) bitsLt_bf16_f32 := rfl
theorem xin_succ (l : ℕ) (c : Dev nD) :
    xin m (l + 1) c = truncf .bf16 (lout (xin m l) (winB m l) (woutB m l) c) bitsLt_bf16_f32 := rfl

/-- What device `c` holds of half `h` after `s` exchanges of layer `l`. -/
def accAt (h l s : ℕ) (c : Dev nD) : FVec F S64x1024 .f32 := acc (xin m l) (winB m l) h s c

/-- What device `c` sends in exchange `i`. -/
def sentAt (i : ℕ) (c : Dev nD) : FVec F S1x64x1024 .bf16 := sent (accAt m (i % 2) (i / 2 / 5) (i / 2 % 5) c)

/-- The kernel's result on device `c`. -/
def outAt (c : Dev nD) : FVec F S64x1024 .f32 := lout (xin m 2) (winB m 2) (woutB m 2) c

theorem accAt_zero (h l : ℕ) (c : Dev nD) : accAt m h l 0 c = mm (xin m l c) (cols h (winB m l c)) := rfl

/-- One exchange: `i` is stage `s` of layer `l` of half `h`. -/
theorem accAt_succ (i h l s : ℕ) (hi : i = 2 * (5 * l + s) + h) (hh : h < 2) (hs : s < 5) (c : Dev nD) :
    joined (accAt m h l s c) (sentAt m i (pa i c)) = accAt m h l (s + 1) c := by
  have e1 : i % 2 = h := by omega
  have e2 : i / 2 = 5 * l + s := by omega
  have e3 : bitOf i = bitOf (2 * s + h) := by
    unfold bitOf
    have a1 : (2 * s + h) % 2 = h := by omega
    have a2 : (2 * s + h) / 2 = s := by omega
    have a3 : (Fin.ofNat 5 (5 * l + s)) = Fin.ofNat 5 s := Fin.ext (by show (5 * l + s) % 5 = s % 5; omega)
    rw [e1, e2, a1, a2, a3]
  unfold sentAt
  rw [e1, e2, show (5 * l + s) / 5 = l by omega, show (5 * l + s) % 5 = s by omega]
  unfold pa; rw [e3]
  rfl

end Cert.Mlp

end
-- ==== Proof.Schedule.lean ====
/-
The protocol, as a schedule of rounds for the kernel's semaphores.

* The barrier semaphore of device `c`: one round of five signals, one from the partner of each bit
  `b`.  It hands `c` the slots of the partner's receive buffers that `c`'s exchanges over that bit
  write.  A device waits for all five before its first exchange.
* The send semaphore of exchange `i`: one round, the transfer's count; it gives back the half of the
  send buffer that was read.
* The receive semaphore of exchange `i`: one round, the transfer's count, paid by the partner's
  transfer; it hands over the slot, holding what the partner sent.
* The two semaphores of the local copies: three rounds, one for each layer; each gives the staged
  weight and the argument it was read from.
* The semaphore of the closing handshake: one round of five signals that hand over nothing.

A device waits in the order: copy of the input weight, barrier, then for `k = 0 … 14` the send and
the receive semaphore of exchange `2 k` and then those of `2 k + 1`, with the copies between; last
the closing handshake.  The levels grow in that order.
-/
module

public import proofs.«01_k».proof.Proof.Contents
public import Idealize.SL.BI.BigOpNat

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy and the protocol's -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What is handed over -/

/-- A piece of device `c`'s memory at whatever it holds; -/
def anyAt {s : Shape} {e : EltTy} (M : Memref sig .tc .vmem s e) (c : Dev nD) : sProp 𝕄 :=
  iprop(∃ f : Buf (Elt F) (M.view.loc (c : Thread nD τ)), M.view.loc (c : Thread nD τ) ↦[M.view.set]{fullShare} f)
/-- a slot and a half of the send buffer at whatever they hold; -/
def slotAny (i : ℕ) (c : Dev nD) : sProp 𝕄 := anyAt (slotM i) c
def sendAny (i : ℕ) (c : Dev nD) : sProp 𝕄 := anyAt (sendM i) c
/-- the slot holding what the partner sent. -/
def slotFull (i : ℕ) (c : Dev nD) : sProp 𝕄 := owns (c : Thread nD τ) (slotM i) fullShare (sentAt m i (pa i c))

/-- An argument's array in HBM, at what it held at launch. -/
def winHbm (l : ℕ) (c : Dev nD) : sProp 𝕄 :=
  (winM l).view.loc (c : Thread nD τ) ↦[(winM l).view.set]{fullShare} m ((winM l).view.loc (c : Thread nD τ))
def woutHbm (l : ℕ) (c : Dev nD) : sProp 𝕄 :=
  (woutM l).view.loc (c : Thread nD τ) ↦[(woutM l).view.set]{fullShare} m ((woutM l).view.loc (c : Thread nD τ))
/-- What the copy of a layer's weight gives. -/
def winPay (l : ℕ) (c : Dev nD) : sProp 𝕄 := iprop(owns (c : Thread nD τ) wiM fullShare (winAt m l c) ∗ winHbm m l c)
def woutPay (l : ℕ) (c : Dev nD) : sProp 𝕄 := iprop(owns (c : Thread nD τ) woM fullShare (woutAt m l c) ∗ woutHbm m l c)

/-- What the partner of bit `b` hands device `c` at the barrier: its slots of the exchanges over `b`. -/
def barPay (c : Dev nD) (b : Fin 5) : sProp 𝕄 :=
  bigSep ((Finset.range 30).filter (fun i => bitOf i = b)) fun i => slotAny (F := F) i (px b c)

/-- What the semaphore `s` of device `c` hands over in round `r` with duty `d`. -/
def payOf (c : Dev nD) (s : SemLoc sig) (r : ℕ) (d : Fin 5) : sProp 𝕄 :=
  match s with
  | .reg x => if x.val = 0 then barPay c d else iprop(emp)
  | .dma q => if q.val = 2 then winPay m r c else if q.val = 3 then woutPay m r c
      else if isRcv q.val = true then slotFull m (slotOf q.val) c else sendAny (slotOf q.val) c

/-- The count of one duty of the semaphore `s`. -/
def amtOf (s : SemLoc sig) : ℕ :=
  match s with
  | .reg _ => 1
  | .dma q => if q.val = 2 then Ni else if q.val = 3 then No else N

/-- The duties of the semaphore `s` in round `r`. -/
def dutOf (s : SemLoc sig) (r : ℕ) : Finset (Fin 5) :=
  match s with
  | .reg _ => if r = 0 then Finset.univ else ∅
  | .dma q => if q.val < 2 then ∅ else if q.val < 4 then (if r < 3 then {0} else ∅) else if r = 0 then {0} else ∅

theorem amtOf_pos (s : SemLoc sig) : 0 < amtOf s := by
  unfold amtOf
  split
  · exact Nat.one_pos
  · split_ifs
    · exact Ni_pos
    · exact No_pos
    · exact N_pos

/-- The schedule. -/
def sched : Rounds.Schedule (GSem nD τ sig) (Fin 5) 𝕄 where
  duties g r := if g.1.2 = .tc then dutOf g.2 r else ∅
  unitless _ := False
  amount g _ _ := amtOf g.2
  payload g r d := payOf m g.1.1 g.2 r d
  amount_pos g _ _ _ := amtOf_pos g.2

instance anyAt_storable {s : Shape} {e : EltTy} (M : Memref sig .tc .vmem s e) (c : Dev nD) :
    BI.Storable (upEmb : UEmb _ 𝕄) (anyAt (F := F) M c) := by unfold anyAt; infer_instance
instance slotAny_storable (i : ℕ) (c : Dev nD) : BI.Storable (upEmb : UEmb _ 𝕄) (slotAny (F := F) i c) := by unfold slotAny; infer_instance
instance sendAny_storable (i : ℕ) (c : Dev nD) : BI.Storable (upEmb : UEmb _ 𝕄) (sendAny (F := F) i c) := by unfold sendAny; infer_instance
instance slotFull_storable (i : ℕ) (c : Dev nD) : BI.Storable (upEmb : UEmb _ 𝕄) (slotFull m i c) := by unfold slotFull owns; infer_instance
instance winPay_storable (l : ℕ) (c : Dev nD) : BI.Storable (upEmb : UEmb _ 𝕄) (winPay m l c) := by unfold winPay winHbm owns; infer_instance
instance woutPay_storable (l : ℕ) (c : Dev nD) : BI.Storable (upEmb : UEmb _ 𝕄) (woutPay m l c) := by unfold woutPay woutHbm owns; infer_instance
instance barPay_storable (c : Dev nD) (b : Fin 5) : BI.Storable (upEmb : UEmb _ 𝕄) (barPay (F := F) c b) := by unfold barPay; infer_instance

instance sched_storable (g : GSem nD τ sig) (r : ℕ) (d : Fin 5) : BI.Storable (upEmb : UEmb _ 𝕄) ((sched m).payload g r d) := by
  show BI.Storable upEmb (payOf m g.1.1 g.2 r d)
  unfold payOf
  (repeat' split) <;> infer_instance

/-! ## The schedule's tables -/

section Tables
variable (c : Dev nD)

theorem duties_bar : (sched m).duties (barC c) 0 = Finset.univ := rfl
theorem duties_sec : (sched m).duties (secC c) 0 = Finset.univ := rfl
theorem duties_cpi {r : ℕ} (hr : r < 3) : (sched m).duties (cpiC c) r = {0} := by
  show dutOf (.dma cpiD) r = {0}
  unfold dutOf; exact (if_neg (by decide)).trans ((if_pos (by decide)).trans (if_pos hr))
theorem duties_cpo {r : ℕ} (hr : r < 3) : (sched m).duties (cpoC c) r = {0} := by
  show dutOf (.dma cpoD) r = {0}
  unfold dutOf; exact (if_neg (by decide)).trans ((if_pos (by decide)).trans (if_pos hr))
theorem duties_dma {q : DmaSem sig} (hq : 4 ≤ q.val) : (sched m).duties ((c : Thread nD τ), .dma q) 0 = {0} := by
  show dutOf (.dma q) 0 = {0}
  unfold dutOf; exact (if_neg (by omega)).trans ((if_neg (by omega)).trans (if_pos rfl))
theorem duties_snd {i : ℕ} (hi : i < 30) : (sched m).duties (sndC i c) 0 = {0} := duties_dma m c (four_le_snd hi)
theorem duties_rcv {i : ℕ} (hi : i < 30) : (sched m).duties (rcvC i c) 0 = {0} := duties_dma m c (four_le_rcv hi)

/-- No cell has a duty after its rounds. -/
theorem duties_late (g : GSem nD τ sig) (r : ℕ) (hr : 3 ≤ r) : (sched m).duties g r = ∅ := by
  have h3 : ¬ r < 3 := by omega
  have h0 : ¬ r = 0 := by omega
  dsimp only [sched, dutOf]
  rcases g.2 with x | q
  · dsimp only; rw [if_neg h0, ite_self]
  · dsimp only; rw [if_neg h3, if_neg h0, ite_self, ite_self, ite_self]
theorem duties_late_reg (x : Sem sig) (r : ℕ) (hr : 1 ≤ r) : (sched m).duties ((c : Thread nD τ), .reg x) r = ∅ :=
  if_neg (by omega)
theorem duties_late_dma {q : DmaSem sig} (hq : 4 ≤ q.val) (r : ℕ) (hr : 1 ≤ r) : (sched m).duties ((c : Thread nD τ), .dma q) r = ∅ := by
  show dutOf (.dma q) r = ∅
  unfold dutOf; exact (if_neg (by omega)).trans ((if_neg (by omega)).trans (if_neg (by omega)))

theorem amount_reg (x : Sem sig) (r : ℕ) (d : Fin 5) : (sched m).amount ((c : Thread nD τ), .reg x) r d = 1 := rfl
theorem amount_cpi (r : ℕ) (d : Fin 5) : (sched m).amount (cpiC c) r d = Ni := by dsimp only [sched, amtOf]; exact if_pos rfl
theorem amount_cpo (r : ℕ) (d : Fin 5) : (sched m).amount (cpoC c) r d = No := by
  dsimp only [sched, amtOf]; exact (if_neg (by decide)).trans (if_pos rfl)
theorem amount_dma {q : DmaSem sig} (hq : 4 ≤ q.val) (r : ℕ) (d : Fin 5) : (sched m).amount ((c : Thread nD τ), .dma q) r d = N := by
  dsimp only [sched, amtOf]; exact (if_neg (by omega)).trans (if_neg (by omega))
theorem amount_snd {i : ℕ} (hi : i < 30) (r : ℕ) (d : Fin 5) : (sched m).amount (sndC i c) r d = N := amount_dma m c (four_le_snd hi) r d
theorem amount_rcv {i : ℕ} (hi : i < 30) (r : ℕ) (d : Fin 5) : (sched m).amount (rcvC i c) r d = N := amount_dma m c (four_le_rcv hi) r d

theorem expect_reg (x : Sem sig) : (sched m).expect ((c : Thread nD τ), .reg x) 0 = 5 := by
  unfold Schedule.expect Schedule.amountOf
  rw [show (sched m).duties ((c : Thread nD τ), .reg x) 0 = Finset.univ from rfl, Finset.sum_congr rfl fun d _ => amount_reg m c x 0 d,
    Finset.sum_const, Finset.card_univ, Fintype.card_fin, smul_eq_mul]
theorem expect_cpi {r : ℕ} (hr : r < 3) : (sched m).expect (cpiC c) r = Ni := by
  unfold Schedule.expect Schedule.amountOf; rw [duties_cpi m c hr, Finset.sum_singleton, amount_cpi]
theorem expect_cpo {r : ℕ} (hr : r < 3) : (sched m).expect (cpoC c) r = No := by
  unfold Schedule.expect Schedule.amountOf; rw [duties_cpo m c hr, Finset.sum_singleton, amount_cpo]
theorem expect_snd {i : ℕ} (hi : i < 30) : (sched m).expect (sndC i c) 0 = N := by
  unfold Schedule.expect Schedule.amountOf; rw [duties_snd m c hi, Finset.sum_singleton, amount_snd m c hi]
theorem expect_rcv {i : ℕ} (hi : i < 30) : (sched m).expect (rcvC i c) 0 = N := by
  unfold Schedule.expect Schedule.amountOf; rw [duties_rcv m c hi, Finset.sum_singleton, amount_rcv m c hi]

theorem payload_bar (d : Fin 5) : (sched m).payload (barC c) 0 d = barPay c d := by dsimp only [sched, payOf]; exact if_pos rfl
theorem payload_sec (d : Fin 5) : (sched m).payload (secC c) 0 d = iprop(emp) := by dsimp only [sched, payOf]; exact if_neg (by decide)
theorem payload_cpi (r : ℕ) (d : Fin 5) : (sched m).payload (cpiC c) r d = winPay m r c := by dsimp only [sched, payOf]; exact if_pos rfl
theorem payload_cpo (r : ℕ) (d : Fin 5) : (sched m).payload (cpoC c) r d = woutPay m r c := by
  dsimp only [sched, payOf]; exact (if_neg (by decide)).trans (if_pos rfl)
theorem payload_snd {i : ℕ} (hi : i < 30) (d : Fin 5) : (sched m).payload (sndC i c) 0 d = sendAny i c := by
  have h4 := four_le_snd hi
  dsimp only [sched, payOf]
  refine (if_neg (by omega)).trans ((if_neg (by omega)).trans ((if_neg ?_).trans ?_))
  · rw [isRcv_snd i hi]; exact Bool.false_ne_true
  · rw [slotOf_snd i hi]
theorem payload_rcv {i : ℕ} (hi : i < 30) (d : Fin 5) : (sched m).payload (rcvC i c) 0 d = slotFull m i c := by
  have h4 := four_le_rcv hi
  dsimp only [sched, payOf]
  refine (if_neg (by omega)).trans ((if_neg (by omega)).trans ((if_pos ?_).trans ?_))
  · exact isRcv_rcv i hi
  · rw [slotOf_rcv i hi]

/-- What the whole round of each cell hands over. -/
theorem rest_cpi {r : ℕ} (hr : r < 3) : bigSep ((sched m).duties (cpiC c) r \ ∅) (fun d => (sched m).payload (cpiC c) r d) = winPay m r c := by
  rw [Finset.sdiff_empty, duties_cpi m c hr, bigSep_singleton, payload_cpi]
theorem rest_cpo {r : ℕ} (hr : r < 3) : bigSep ((sched m).duties (cpoC c) r \ ∅) (fun d => (sched m).payload (cpoC c) r d) = woutPay m r c := by
  rw [Finset.sdiff_empty, duties_cpo m c hr, bigSep_singleton, payload_cpo]
theorem rest_snd {i : ℕ} (hi : i < 30) : bigSep ((sched m).duties (sndC i c) 0 \ ∅) (fun d => (sched m).payload (sndC i c) 0 d) = sendAny i c := by
  rw [Finset.sdiff_empty, duties_snd m c hi, bigSep_singleton, payload_snd m c hi]
theorem rest_rcv {i : ℕ} (hi : i < 30) : bigSep ((sched m).duties (rcvC i c) 0 \ ∅) (fun d => (sched m).payload (rcvC i c) 0 d) = slotFull m i c := by
  rw [Finset.sdiff_empty, duties_rcv m c hi, bigSep_singleton, payload_rcv m c hi]
/-- A conjunction over the exchanges, grouped by their bits. -/
theorem by_bit (Φ : ℕ → Fin 5 → sProp 𝕄) :
    bigSep (Finset.Ico 0 30) (fun i => Φ i (bitOf i)) = bigSep Finset.univ (fun b => bigSep ((Finset.range 30).filter fun i => bitOf i = b) fun i => Φ i b) := by
  rw [← Finset.range_eq_Ico, bigSep_fiberwise (Finset.range 30) bitOf,
    show (Finset.range 30).image bitOf = Finset.univ by decide +kernel]
  refine bigSep_congr fun b _ => bigSep_congr fun i hi => ?_
  rw [(Finset.mem_filter.mp hi).2]
/-- After the barrier a device holds the slots of all its partners that its exchanges write. -/
theorem rest_bar : bigSep ((sched m).duties (barC c) 0 \ ∅) (fun d => (sched m).payload (barC c) 0 d)
    = bigSep (Finset.Ico 0 30) (fun i => slotAny (F := F) i (pa i c)) := by
  rw [Finset.sdiff_empty, duties_bar, bigSep_congr (fun d _ => payload_bar m c d)]
  exact (by_bit fun i b => slotAny i (px b c)).symm
/-- What a device hands its partners at the barrier are all its slots. -/
theorem give_bar : bigSep (Finset.Ico 0 30) (fun i => slotAny (F := F) i c) = bigSep Finset.univ (fun b => barPay (F := F) (px b c) b) := by
  unfold barPay
  simp only [px_px]
  exact by_bit fun i _ => slotAny i c

end Tables

/-! ## What a device owes, and the levels -/

/-- The signals of the barrier from bit `n` on, the counts of the exchanges from `n` on, the signals of the closing
    handshake from bit `n` on: what device `c` still owes its partners. -/
def barOwed (c : Dev nD) (n : ℕ) : CellTallies nD τ sig Unit := ∑ b ∈ Finset.Ico n 5, tallyAt (barC (px (Fin.ofNat 5 b) c)) () 1
def rcvOwed (c : Dev nD) (n : ℕ) : CellTallies nD τ sig Unit := ∑ i ∈ Finset.Ico n 30, tallyAt (rcvC i (pa i c)) () N
def secOwed (c : Dev nD) (n : ℕ) : CellTallies nD τ sig Unit := ∑ b ∈ Finset.Ico n 5, tallyAt (secC (px (Fin.ofNat 5 b) c)) () 1
def owed (c : Dev nD) (j n s : ℕ) : CellTallies nD τ sig Unit := barOwed c j + rcvOwed c n + secOwed c s

theorem sum_Ico_first {A : Type*} [AddCommMonoid A] {a b : ℕ} (h : a < b) (f : ℕ → A) :
    ∑ i ∈ Finset.Ico a b, f i = f a + ∑ i ∈ Finset.Ico (a + 1) b, f i := by
  rw [show Finset.Ico a b = insert a (Finset.Ico (a + 1) b) by ext x; simp only [Finset.mem_Ico, Finset.mem_insert]; omega,
    Finset.sum_insert (by rw [Finset.mem_Ico]; omega)]

theorem owed_bar (c : Dev nD) {j : ℕ} (hj : j < 5) (n s : ℕ) :
    owed c j n s = owed c (j + 1) n s + tallyAt (barC (px (Fin.ofNat 5 j) c)) () 1 := by
  unfold owed barOwed
  rw [sum_Ico_first hj, add_comm (tallyAt _ _ _), add_right_comm _ _ (rcvOwed c n), add_right_comm _ _ (secOwed c s)]
theorem owed_rcv (c : Dev nD) (j : ℕ) {n : ℕ} (hn : n < 30) (s : ℕ) :
    owed c j n s = owed c j (n + 1) s + tallyAt (rcvC n (pa n c)) () N := by
  unfold owed rcvOwed
  rw [sum_Ico_first hn, add_comm (tallyAt _ _ _), ← add_assoc, add_right_comm _ _ (secOwed c s)]
theorem owed_sec (c : Dev nD) (j n : ℕ) {s : ℕ} (hs : s < 5) :
    owed c j n s = owed c j n (s + 1) + tallyAt (secC (px (Fin.ofNat 5 s) c)) () 1 := by
  unfold owed secOwed
  rw [sum_Ico_first hs, add_comm (tallyAt _ _ _), ← add_assoc]
theorem owed_end (c : Dev nD) : owed c 5 30 5 = 0 := by
  unfold owed barOwed rcvOwed secOwed
  simp only [Finset.Ico_self, Finset.sum_empty, add_zero]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: the barrier 1, the receive semaphore of exchange `i` at `2 + i`, the closing handshake 100,
    every other 0. -/
def lvOf (s : SemLoc sig) : ℕ :=
  match s with
  | .reg x => if x.val = 0 then 1 else 100
  | .dma q => if 4 ≤ q.val ∧ isRcv q.val = true then 2 + slotOf q.val else 0
def lv (g : GSem nD τ sig) (_ : Unit) : ℕ := lvOf g.2

theorem lv_rcv {i : ℕ} (hi : i < 30) : lvOf (.dma (rcvD i)) = 2 + i :=
  (if_pos ⟨four_le_rcv hi, isRcv_rcv i hi⟩).trans (by rw [slotOf_rcv i hi])
theorem lv_snd {i : ℕ} (hi : i < 30) : lvOf (.dma (sndD i)) = 0 :=
  if_neg fun h => by rw [isRcv_snd i hi] at h; exact Bool.false_ne_true h.2
theorem lv_low {q : DmaSem sig} (hq : q.val < 4) : lvOf (.dma q) = 0 := if_neg fun h => by omega

/-- Whatever a device owes lies on a cell of a partner's: a barrier cell, a receive cell of an exchange it has not started
    yet, or a cell of the closing handshake. -/
theorem owed_pos {c : Dev nD} {j n s : ℕ} {g : GSem nD τ sig} {u : Unit} (h : 0 < owed c j n s g u) :
    (∃ b, j ≤ b ∧ b < 5 ∧ g = barC (px (Fin.ofNat 5 b) c)) ∨ (∃ i, n ≤ i ∧ i < 30 ∧ g = rcvC i (pa i c))
      ∨ (∃ b, s ≤ b ∧ b < 5 ∧ g = secC (px (Fin.ofNat 5 b) c)) := by
  have key : ∀ (a b k : ℕ) (f : ℕ → GSem nD τ sig),
      0 < (∑ i ∈ Finset.Ico a b, tallyAt (Ix := Unit) (f i) () k : CellTallies nD τ sig Unit) g u → ∃ i, a ≤ i ∧ i < b ∧ g = f i := by
    intro a b k f hp
    by_contra hn
    refine absurd hp ?_
    rw [Finset.sum_apply, Finsupp.finset_sum_apply, Finset.sum_eq_zero]
    · exact Nat.lt_irrefl 0
    · intro i hi
      rw [Finset.mem_Ico] at hi
      rw [tallyAt_apply, if_neg fun hg => hn ⟨i, hi.1, hi.2, hg.1⟩]
  unfold owed at h
  rw [Pi.add_apply, Finsupp.add_apply, Pi.add_apply, Finsupp.add_apply] at h
  by_cases h1 : 0 < barOwed c j g u
  · exact .inl (key _ _ _ _ h1)
  · by_cases h2 : 0 < rcvOwed c n g u
    · exact .inr (.inl (key _ _ _ _ h2))
    · exact .inr (.inr (key _ _ _ _ (show 0 < secOwed c s g u by omega)))

/-- A device may wait on a semaphore whose level lies below everything it owes. -/
theorem mayWait (c : Dev nD) (sm : SemLoc sig) {j n s : ℕ} (h1 : j < 5 → lvOf sm < 1) (h2 : n < 30 → lvOf sm < 2 + n)
    (h3 : s < 5 → lvOf sm < 100) : (levAts L lv : sProp 𝕄) ⊢ MayWait (c : Thread nD τ) sm () (owed c j n s) := by
  refine MayOwe.of_cut (L := L) (lev := lv) (lvOf sm) (fun p hp => ?_) (fun g u hg => ?_) (fun p hp => ?_) (fun g u hg => ?_)
  · rw [Finset.mem_singleton.mp hp, L_tc]; exact Finset.mem_singleton_self _
  · rcases owed_pos hg with ⟨b, _, _, rfl⟩ | ⟨i, _, _, rfl⟩ | ⟨b, _, _, rfl⟩ <;> exact Finset.mem_singleton_self _
  · rw [Finset.mem_singleton.mp hp]; exact le_refl _
  · rcases owed_pos hg with ⟨b, hb, hb', rfl⟩ | ⟨i, hi, hi', rfl⟩ | ⟨b, hb, hb', rfl⟩
    · exact h1 (by omega)
    · show lvOf sm < lvOf (.dma (rcvD i))
      rw [lv_rcv hi']; have := h2 (by omega); omega
    · exact h3 (by omega)

end Cert.Mlp

end
-- ==== Proof.Steps.lean ====
/-
The steps of the protocol, each once for a symbolic device and exchange: what a device holds before
and after a signal, a transfer, a wait.
-/
module

public import proofs.«01_k».proof.Proof.Schedule

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells, all together -/

/-- The protocol's semaphores of one device, in one numbering: the two regular ones, then the DMA semaphores from 2 on. -/
def csem (j : Fin 64) : SemLoc sig := if j.val < 2 then .reg (Fin.ofNat 2 j.val) else .dma j
abbrev kcell (x : Dev nD × Fin 64) : GSem nD τ sig := ((x.1 : Thread nD τ), csem x.2)

theorem csem_dma (j : Fin 64) (h : 2 ≤ j.val) : csem j = .dma j := if_neg (by omega)

/-- What every device knows of every cell: its invariant, and that its first round is open. -/
def records (K : Dev nD × Fin 64 → ℕ) : sProp 𝕄 :=
  iprop(bigSep Finset.univ (fun x : Dev nD × Fin 64 => cellInv ER (sched m) (K x) (kcell x))
    ∗ bigSep Finset.univ (fun x : Dev nD × Fin 64 => reached ER (kcell x) 0))
instance records_persistent (K : Dev nD × Fin 64 → ℕ) : BI.Persistent (records m K) := by unfold records; infer_instance

/-- The levels, -/
def Lev : sProp 𝕄 := levAts L lv
instance lev_persistent : BI.Persistent (Lev (F := F)) := by unfold Lev; infer_instance
theorem lev_may (c : Dev nD) (sm : SemLoc sig) {j n s : ℕ} (h1 : j < 5 → lvOf sm < 1) (h2 : n < 30 → lvOf sm < 2 + n) (h3 : s < 5 → lvOf sm < 100) :
    Lev (F := F) ⊢ MayWait (c : Thread nD τ) sm () (owed c j n s) := by
  unfold Lev; exact mayWait c sm h1 h2 h3
/-- and both. -/
def Env (K : Dev nD × Fin 64 → ℕ) : sProp 𝕄 := iprop(records m K ∗ Lev)
instance env_persistent (K : Dev nD × Fin 64 → ℕ) : BI.Persistent (Env m K) := by unfold Env; infer_instance

theorem env_inv (K : Dev nD × Fin 64 → ℕ) (x : Dev nD × Fin 64) : Env m K ⊢ cellInv ER (sched m) (K x) (kcell x) := by
  unfold Env records
  exact BI.Entails.trans (BI.Entails.trans (BI.Entails.trans BI.sep_and BI.and_elimL) (BI.Entails.trans BI.sep_and BI.and_elimL))
    (bigSep_elim (Φ := fun x : Dev nD × Fin 64 => cellInv ER (sched m) (K x) (kcell x)) (Finset.mem_univ x))
theorem env_reached (K : Dev nD × Fin 64 → ℕ) (x : Dev nD × Fin 64) : Env m K ⊢ reached ER (kcell x) 0 := by
  unfold Env records
  exact BI.Entails.trans (BI.Entails.trans (BI.Entails.trans BI.sep_and BI.and_elimL) (BI.Entails.trans BI.sep_and BI.and_elimR))
    (bigSep_elim (Φ := fun x : Dev nD × Fin 64 => reached ER (kcell x) 0) (Finset.mem_univ x))
theorem env_may (K : Dev nD × Fin 64 → ℕ) (c : Dev nD) (sm : SemLoc sig) {j n s : ℕ} (h1 : j < 5 → lvOf sm < 1) (h2 : n < 30 → lvOf sm < 2 + n)
    (h3 : s < 5 → lvOf sm < 100) : Env m K ⊢ MayWait (c : Thread nD τ) sm () (owed c j n s) := by
  unfold Env
  iintro ⟨-, H⟩
  iapply (lev_may c sm h1 h2 h3)
  iexact H

theorem env_dma (K : Dev nD × Fin 64 → ℕ) (c : Dev nD) (q : DmaSem sig) (h : 2 ≤ q.val) :
    Env m K ⊢ cellInv ER (sched m) (K (c, q)) ((c : Thread nD τ), .dma q) := by
  have e := env_inv m K (c, q)
  unfold kcell at e; rwa [csem_dma q h] at e
theorem reached_dma (K : Dev nD × Fin 64 → ℕ) (c : Dev nD) (q : DmaSem sig) (h : 2 ≤ q.val) :
    Env m K ⊢ reached ER ((c : Thread nD τ), .dma q) 0 := by
  have e := env_reached m K (c, q)
  unfold kcell at e; rwa [csem_dma q h] at e
theorem env_bar (K : Dev nD × Fin 64 → ℕ) (c : Dev nD) : Env m K ⊢ cellInv ER (sched m) (K (c, 0)) (barC c) := env_inv m K (c, 0)
theorem env_sec (K : Dev nD × Fin 64 → ℕ) (c : Dev nD) : Env m K ⊢ cellInv ER (sched m) (K (c, 1)) (secC c) := env_inv m K (c, 1)
theorem reached_bar (K : Dev nD × Fin 64 → ℕ) (c : Dev nD) : Env m K ⊢ reached ER (barC c) 0 := env_reached m K (c, 0)
theorem reached_sec (K : Dev nD × Fin 64 → ℕ) (c : Dev nD) : Env m K ⊢ reached ER (secC c) 0 := env_reached m K (c, 1)

/-! ## What a device holds -/

/-- Its debts: the barrier's signals from `j` on, the exchanges' counts from `n` on, the closing signals from `s` on. -/
def Owe (c : Dev nD) (j n s : ℕ) : sProp 𝕄 := iprop(∃ W, owes (c : Thread nD τ) (owed c j n s) W)

/-- What exchange `i` needs of the protocol, -/
def Ready (i : ℕ) (c : Dev nD) : sProp 𝕄 :=
  iprop(dutyTok ER (sndC i c) 0 0 ∗ dutyTok ER (rcvC i (pa i c)) 0 0 ∗ atPos ER (sndC i c) 0 ∅ 0 ∗ atPos ER (rcvC i c) 0 ∅ 0
    ∗ cred (tallyAt (rcvC i c) () N))
/-- and all of it with the partners' slots, for the exchanges from `n` on. -/
def Todo (c : Dev nD) (n : ℕ) : sProp 𝕄 := bigSep (Finset.Ico n 30) fun i => iprop(Ready (F := F) i c ∗ slotAny i (pa i c))
/-- Exchange `i` on its way, -/
def Flight (i : ℕ) (c : Dev nD) : sProp 𝕄 :=
  iprop(cred (tallyAt (sndC i c) () N) ∗ atPos ER (sndC i c) 0 ∅ 0 ∗ atPos ER (rcvC i c) 0 ∅ 0 ∗ cred (tallyAt (rcvC i c) () N))
/-- sent away, -/
def Away (i : ℕ) (c : Dev nD) : sProp 𝕄 := iprop(semVal (sndC i c) 0 ∗ atPos ER (rcvC i c) 0 ∅ 0 ∗ cred (tallyAt (rcvC i c) () N))
/-- and received. -/
def Got (i : ℕ) (c : Dev nD) : sProp 𝕄 := iprop(semVal (sndC i c) 0 ∗ semVal (rcvC i c) 0 ∗ slotFull m i c)
/-- What the exchanges before `n` leave. -/
def Done (c : Dev nD) (n : ℕ) : sProp 𝕄 :=
  bigSep (Finset.Ico 0 n) fun i => iprop(semVal (sndC i c) 0 ∗ semVal (rcvC i c) 0 ∗ slotAny (F := F) i c)
/-- The half of the send buffer that exchange `i` sends, holding `v`. -/
def sendHas (i : ℕ) (v : FVec F S1x64x1024 .bf16) (c : Dev nD) : sProp 𝕄 := owns (c : Thread nD τ) (sendM i) fullShare v

/-- No loop of the program carries a variant. -/
abbrev 𝒱₀ : Variants := Variants.none

/-- A program on device `c`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The transfer of an exchange -/

/-- A block written through a view with an axis of one dropped, read back with the axis. -/
theorem read_write_reshape {s s' : Shape} {e : EltTy} {b b' : Space} (v : View sig .tc b s e) (w : View sig .tc b' s e) (h : s'.numel = s.numel)
    (f : v.ty.Contents (Elt F)) (g : w.ty.Contents (Elt F)) :
    v.read (Elt F) ((v.reshape s' h).write (Elt F) f ((w.reshape s' h).read (Elt F) g) Finset.univ) = w.read (Elt F) g := by
  funext x
  have hx : Shape.reshapeEquiv h ((Shape.reshapeEquiv h).symm x) = x := Equiv.apply_symm_apply _ _
  have e : v.emb x = (v.reshape s' h).emb ((Shape.reshapeEquiv h).symm x) := by
    show v.emb x = v.emb (Shape.reshapeEquiv h ((Shape.reshapeEquiv h).symm x)); rw [hx]
  rw [View.read_apply, e, View.write_emb_of_mem _ _ (Finset.mem_univ _), cast_cast, cast_eq, View.read_apply, View.read_apply]
  show cast _ (g (w.emb (Shape.reshapeEquiv h ((Shape.reshapeEquiv h).symm x)))) = _
  rw [hx]

theorem pa_pa (i : ℕ) (c : Dev nD) : pa i (pa i c) = c := px_px _ _

theorem wp_send_exchange {α : Type} (K : Dev nD × Fin 64 → ℕ) (c : Dev nD) (i : ℕ) (hi : i < 30) (s : ℕ) {dev : Dev nD} (hdev : dev = pa i c)
    {src dst : Memref sig .tc .vmem S64x1024 .bf16} (hsrc : src = sendQ i) (hdst : dst = slotQ i) {sS sR : DmaSem sig} (hS : sS = sndD i) (hR : sR = rcvD i)
    {hsc : dst.view.ref.isScScratch = false} {h1 : src.view.WordExact} {h2 : dst.view.WordExact}
    {h3 : DmaTarget.Typed (nD := nD) (τ := τ) (p := .tc) .vmem (.dma sR) (.remote (dev : Thread nD τ) dst (.dma sS) hsc)}
    {k : PUnit → Prog (TpuEff nD τ sig (Elt F) Λ₀ .tc) α} {Q : α → sProp 𝕄} :
    iprop(Env m K ∗ Owe (F := F) c 5 i s ∗ Todo (F := F) c i ∗ sendHas i (sentAt m i c) c)
      ⊢ iprop(((Owe (F := F) c 5 (i + 1) s ∗ Todo (F := F) c (i + 1) ∗ Flight (F := F) i c) -∗ wpc c (k ⟨⟩) Q)
        -∗ wpc c (.op (.enqueueDma src (.remote (dev : Thread nD τ) dst (.dma sS) hsc) (.dma sR) h1 h2 h3) k) Q) := by
  subst hdev hsrc hdst hS hR
  have q1 : 2 ≤ (sndD i).val := by have := four_le_snd hi; omega
  have q2 : 2 ≤ (rcvD i).val := by have := four_le_rcv hi; omega
  unfold Owe Todo sendHas owns
  rw [bigSep_Ico_succ_bot hi]
  unfold Ready slotAny anyAt
  iintro ⟨#Henv, ⟨%W, HO⟩, ⟨⟨⟨HtS, HtR, HaS, HaR, HcR⟩, ⟨%fd, Hd⟩⟩, Htodo⟩, ⟨%fs, %hfs, Hs⟩⟩ Hk
  iapply (Rounds.wp_send_pointsTo 𝒱₀ ER (sched m) (c : Thread nD τ) none (c' := (pa i c : Thread nD τ)) (src := sendQ i) (dst := slotQ i)
      (fs := fs) (fd := fd) (κ₁ := K (c, sndD i)) (κ₂ := K (pa i c, rcvD i)) (d₁ := 0) (d₂ := 0) (r₁ := 0) (r₂ := 0) (q := fullShare)
      (by rw [duties_snd m c hi]; exact Finset.mem_singleton_self _) (by rw [duties_rcv m (pa i c) hi]; exact Finset.mem_singleton_self _)
      () () N (by exact credit_slot i) (amount_snd m c hi 0 0) (amount_rcv m (pa i c) hi 0 0) (owed c 5 (i + 1) s) (owed_rcv c 5 hi s) (W := W)
      (by
        rw [payload_snd m c hi]; unfold sendAny anyAt
        rw [show (sendQ i).view.set = (sendM i).view.set from View.set_reshape _ _]
        iintro H; iexists fs; iexact H)
      (by
        rw [payload_rcv m (pa i c) hi]; unfold slotFull owns
        rw [show (slotQ i).view.set = (slotM i).view.set from View.set_reshape _ _, pa_pa, ← hfs]
        iintro H
        iexists _
        isplitr; rotate_left
        · iexact H
        · ipureintro; exact read_write_reshape (slotM i).view (sendM i).view _ fd fs))
    $$ [HtS HtR Hd Hs HO]
  · isplitr; · iapply (env_dma m K c (sndD i) q1); iexact Henv
    isplitr; · iapply (env_dma m K (pa i c) (rcvD i) q2); iexact Henv
    isplitl [Hs]; · rw [show (sendQ i).view.set = (sendM i).view.set from View.set_reshape _ _]; iexact Hs
    isplitl [Hd]; · rw [show (slotQ i).view.set = (slotM i).view.set from View.set_reshape _ _]; iexact Hd
    isplitl [HO]; · iexact HO
    isplitl [HtS]; · iexact HtS
    isplitr; · iapply (reached_dma m K c (sndD i) q1); iexact Henv
    isplitl [HtR]; · iexact HtR
    iapply (reached_dma m K (pa i c) (rcvD i) q2); iexact Henv
  iintro ⟨HcS, HO⟩
  iapply Hk
  isplitl [HO]; · iexists W; iexact HO
  isplitl [Htodo]; · iexact Htodo
  unfold Flight
  isplitl [HcS]; · iexact HcS
  isplitl [HaS]; · iexact HaS
  isplitl [HaR]; · iexact HaR
  iexact HcR

/-- The two halves of the send buffer are named by the exchanges in turn. -/
theorem sendM_congr {a b : ℕ} (h : a % 2 = b % 2) : sendM a = sendM b := by
  have key : ∀ (x y : ℕ) (hx : x < 2) (hy : y < 2), x = y →
      (Memref.whole cc0_scratch5 : Memref sig .tc .vmem S2x64x1024 .bf16).slice (Rect.unit (s := S2x64x1024) ![x, 0, 0] S1x64x1024.size (inb_half x hx)) (fun _ => rfl)
        = (Memref.whole cc0_scratch5 : Memref sig .tc .vmem S2x64x1024 .bf16).slice (Rect.unit (s := S2x64x1024) ![y, 0, 0] S1x64x1024.size (inb_half y hy)) (fun _ => rfl) := by
    intro x y hx hy e; subst e; rfl
  exact key (a % 2) (b % 2) (Nat.mod_lt _ (by decide)) (Nat.mod_lt _ (by decide)) h
theorem sendAny_congr {a b : ℕ} (h : a % 2 = b % 2) (c : Dev nD) : sendAny (F := F) a c = sendAny b c := by
  have e : ∀ M M' : Memref sig .tc .vmem S1x64x1024 .bf16, M = M' → anyAt (F := F) M c = anyAt M' c := by rintro _ _ rfl; rfl
  exact e _ _ (sendM_congr h)

theorem wp_wait_snd {α : Type} (K : Dev nD × Fin 64 → ℕ) (c : Dev nD) (i : ℕ) (hi : i < 30) (n : ℕ) {sS : DmaSem sig} (hS : sS = sndD i)
    {s : Shape} {e : EltTy} {sp : Space} {src : Memref sig .tc sp s e} {dst : Memref sig .tc .vmem S64x1024 .bf16} (hdst : dst = sendQ i)
    {h1 : src.view.WordExact} {h2 : dst.view.WordExact} {k : PUnit → Prog (TpuEff nD τ sig (Elt F) Λ₀ .tc) α} {Q : α → sProp 𝕄} :
    iprop(Env m K ∗ Owe (F := F) c 5 n 0 ∗ Flight (F := F) i c)
      ⊢ iprop(((Owe (F := F) c 5 n 0 ∗ Away (F := F) i c ∗ sendAny (F := F) (i + 2) c) -∗ wpc c (k ⟨⟩) Q)
        -∗ wpc c (.op (.waitDma2 sS src dst h1 h2) k) Q) := by
  subst hdst hS
  have q1 : 2 ≤ (sndD i).val := by have := four_le_snd hi; omega
  unfold Owe Flight
  iintro ⟨#Henv, ⟨%W, HO⟩, HcS, HaS, HaR, HcR⟩ Hk
  iapply (Rounds.wp_wait_rest_token 𝒱₀ ER (sched m) (c : Thread nD τ) none (κ := K (c, sndD i))
      (wpE_waitDma2_eq 𝒱₀ (c : Thread nD τ) none Set.univ) (Set.mem_univ _) () (O := owed c 5 n 0) (W := W) (R := 0) (m := 0) (T := ∅)
      ((Nat.zero_add _).trans ((credit_send i).trans (expect_snd m c hi).symm))) $$ [HcS HO HaS]
  · isplitr; · iapply (env_dma m K c (sndD i) q1); iexact Henv
    isplitl [HcS]; · rw [show (sendQ i).view.dmaCredit = N from credit_send i]; iexact HcS
    isplitl [HO]; · iexact HO
    isplitr
    · iapply (env_may m K c (.dma (sndD i)) (fun h => absurd h (by decide)) (fun _ => by rw [lv_snd hi]; omega) (fun _ => by rw [lv_snd hi]; omega)); iexact Henv
    iexact HaS
  iintro ⟨HO, HaS, -, Hpay⟩
  ihave Hs := (Entails.of_eq ((rest_snd m c hi).trans (sendAny_congr (by omega : i % 2 = (i + 2) % 2) c))) $$ Hpay
  imod (cell_close ER (sched m) (Set.mem_univ (K (c, sndD i))) (fun h => h) (R := 1)
    (fun r hr => duties_late_dma m c (four_le_snd hi) r hr)) $$ [HaS] with Hv
  · isplitr; · iapply (env_dma m K c (sndD i) q1); iexact Henv
    iexact HaS
  iapply Hk
  isplitl [HO]; · iexists _; iexact HO
  unfold Away
  isplitr [Hs]
  · isplitl [Hv]; · iexact Hv
    isplitl [HaR]; · iexact HaR
    iexact HcR
  · iexact Hs

theorem wp_wait_rcv {α : Type} (K : Dev nD × Fin 64 → ℕ) (c : Dev nD) (i : ℕ) (hi : i < 30) (n : ℕ) (hn : i < n) {sR : DmaSem sig} (hR : sR = rcvD i)
    {s : Shape} {e : EltTy} {sp : Space} {src : Memref sig .tc sp s e} {dst : Memref sig .tc .vmem S64x1024 .bf16} (hdst : dst = slotQ i)
    {h1 : src.view.WordExact} {h2 : dst.view.WordExact} {k : PUnit → Prog (TpuEff nD τ sig (Elt F) Λ₀ .tc) α} {Q : α → sProp 𝕄} :
    iprop(Env m K ∗ Owe (F := F) c 5 n 0 ∗ Away (F := F) i c)
      ⊢ iprop(((Owe (F := F) c 5 n 0 ∗ Got m i c) -∗ wpc c (k ⟨⟩) Q)
        -∗ wpc c (.op (.waitDma2 sR src dst h1 h2) k) Q) := by
  subst hdst hR
  have q1 : 2 ≤ (rcvD i).val := by have := four_le_rcv hi; omega
  unfold Owe Away
  iintro ⟨#Henv, ⟨%W, HO⟩, Hv, HaR, HcR⟩ Hk
  iapply (Rounds.wp_wait_rest_token 𝒱₀ ER (sched m) (c : Thread nD τ) none (κ := K (c, rcvD i))
      (wpE_waitDma2_eq 𝒱₀ (c : Thread nD τ) none Set.univ) (Set.mem_univ _) () (O := owed c 5 n 0) (W := W) (R := 0) (m := 0) (T := ∅)
      ((Nat.zero_add _).trans ((credit_slot i).trans (expect_rcv m c hi).symm))) $$ [HcR HO HaR]
  · isplitr; · iapply (env_dma m K c (rcvD i) q1); iexact Henv
    isplitl [HcR]; · rw [show (slotQ i).view.dmaCredit = N from credit_slot i]; iexact HcR
    isplitl [HO]; · iexact HO
    isplitr
    · iapply (env_may m K c (.dma (rcvD i)) (fun h => absurd h (by decide)) (fun _ => by rw [lv_rcv hi]; omega) (fun _ => by rw [lv_rcv hi]; omega)); iexact Henv
    iexact HaR
  iintro ⟨HO, HaR, -, Hpay⟩
  ihave Hs := (Entails.of_eq (rest_rcv m c hi)) $$ Hpay
  imod (cell_close ER (sched m) (Set.mem_univ (K (c, rcvD i))) (fun h => h) (R := 1)
    (fun r hr => duties_late_dma m c (four_le_rcv hi) r hr)) $$ [HaR] with Hw
  · isplitr; · iapply (env_dma m K c (rcvD i) q1); iexact Henv
    iexact HaR
  iapply Hk
  isplitl [HO]; · iexists _; iexact HO
  unfold Got
  isplitl [Hv]; · iexact Hv
  isplitl [Hw]; · iexact Hw
  iexact Hs

/-! ## Loads and stores of what is held -/

theorem wp_load_owns {α : Type} {s : Shape} {e : EltTy} (c : Dev nD) (M : Memref sig .tc .vmem s e) (r : Rect s) (hr : ∀ a, r.stride a = 1)
    {X : r.shape.Idx → Elt F e} {q : PosShare TreeShare} {hl : M.view.LoadsAt r} {k : (r.shape.Idx → Elt F e) → Prog (TpuEff nD τ sig (Elt F) Λ₀ .tc) α}
    {Q : α → sProp 𝕄} :
    owns (c : Thread nD τ) (M.slice r hr) q X ⊢ iprop((owns (c : Thread nD τ) (M.slice r hr) q X -∗ wpc c (k X) Q) -∗ wpc c (.op (.load M r hl) k) Q) := by
  unfold owns
  iintro ⟨%f, %hf, H⟩ Hk
  iapply (wp_load_rect 𝒱₀ (c : Thread nD τ) none Set.univ (m := M) (r := r) (hl := hl) (S := (M.slice r hr).view.set) (q := q) (f := f) (Finset.Subset.refl _)) $$ H
  iintro H
  rw [show (M.access r).read (Elt F) f = X from hf]
  iapply Hk
  iexists f
  isplitr; · ipureintro; exact hf
  iexact H

theorem wp_load_any {α : Type} {s : Shape} {e : EltTy} (c : Dev nD) (M : Memref sig .tc .vmem s e) (r : Rect s) (hr : ∀ a, r.stride a = 1)
    {hl : M.view.LoadsAt r} {k : (r.shape.Idx → Elt F e) → Prog (TpuEff nD τ sig (Elt F) Λ₀ .tc) α} {Q : α → sProp 𝕄} :
    anyAt (F := F) (M.slice r hr) c ⊢ iprop((∀ v, anyAt (F := F) (M.slice r hr) c -∗ wpc c (k v) Q) -∗ wpc c (.op (.load M r hl) k) Q) := by
  unfold anyAt
  iintro ⟨%f, H⟩ Hk
  iapply (wp_load_rect 𝒱₀ (c : Thread nD τ) none Set.univ (m := M) (r := r) (hl := hl) (S := (M.slice r hr).view.set) (q := fullShare) (f := f) (Finset.Subset.refl _)) $$ H
  iintro H
  iapply Hk
  iexists f
  iexact H

theorem wp_store_any {α : Type} {s : Shape} {e : EltTy} (c : Dev nD) (M : Memref sig .tc .vmem s e) (r : Rect s) (hr : ∀ a, r.stride a = 1)
    {w X : r.shape.Idx → Elt F e} (hw : w = X) {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    anyAt (F := F) (M.slice r hr) c
      ⊢ iprop((owns (c : Thread nD τ) (M.slice r hr) fullShare X -∗ wpc c (k ⟨⟩) Q) -∗ wpc c (.op (.store M r w Finset.univ hx hm) k) Q) := by
  subst hw
  unfold anyAt owns
  iintro ⟨%f, H⟩ Hk
  iapply (wp_store 𝒱₀ (c : Thread nD τ) none Set.univ (m := M) (r := r) (w := w) (Mk := Finset.univ) (hx := hx) (hm := hm)
    (S := (M.slice r hr).view.set) (f := f) (by exact (Finset.Subset.refl _))) $$ H
  iintro H
  iapply Hk
  iexists _
  isplitr; rotate_left
  · iexact H
  · ipureintro; exact View.read_write_univ _ _

/-- A buffer's contents known, and forgotten. -/
theorem owns_any {s : Shape} {e : EltTy} (c : Dev nD) (M : Memref sig .tc .vmem s e) (X : s.Idx → Elt F e) :
    owns (c : Thread nD τ) M fullShare X ⊢ anyAt (F := F) M c := by
  unfold owns anyAt
  iintro ⟨%f, -, H⟩; iexists f; iexact H

/-- A received block read: the exchange is done. -/
theorem wp_load_slot {α : Type} (c : Dev nD) (i : ℕ) {hl : (recvArr i).view.LoadsAt (slotRect i).toLoadRect}
    {k : ((slotRect i).shape.Idx → Elt F .bf16) → Prog (TpuEff nD τ sig (Elt F) Λ₀ .tc) α} {Q : α → sProp 𝕄} :
    iprop(Done (F := F) c i ∗ Got m i c)
      ⊢ iprop((Done (F := F) c (i + 1) -∗ wpc c (k (sentAt m i (pa i c))) Q) -∗ wpc c (.op (.load (recvArr i) (slotRect i).toLoadRect hl) k) Q) := by
  unfold Done Got slotFull
  rw [bigSep_Ico_succ_top (Nat.zero_le i)]
  iintro ⟨HD, Hs, Hr, H⟩ Hk
  iapply (wp_load_owns c (recvArr i) (slotRect i) (fun _ => rfl) (hl := hl) (X := sentAt m i (pa i c))) $$ H
  iintro H
  iapply Hk
  isplitr [HD]
  · isplitl [Hs]; · iexact Hs
    isplitl [Hr]; · iexact Hr
    unfold slotAny; iapply (owns_any c (slotM i)); iexact H
  · iexact HD

/-! ## Whole buffers -/

/-- A rectangle at the origin of a buffer's own sizes is the whole buffer. -/
theorem off_zero : (![0, 0] : Fin 2 → ℕ) = fun _ => 0 := by funext a; fin_cases a <;> rfl

/-- A load of a whole buffer, and a store into all of it; a load of part of one. -/
theorem wp_load_all {α : Type} (c : Dev nD) (i : Fin (sig.nNear .tc .vmem)) (hκ : sig.names .tc .vmem i = true)
    {off : Fin (sig.tyNear .tc .vmem i).shape.rank → ℕ} (ho : off = fun _ => 0) {inb : ∀ a, off a + (sig.tyNear .tc .vmem i).shape.size a ≤ (sig.tyNear .tc .vmem i).shape.size a}
    {X : (sig.tyNear .tc .vmem i).Contents (Elt F)}
    {hl : (Memref.whole ⟨.vmem, i, hκ⟩ : Memref sig .tc _ _ _).view.LoadsAt (Rect.unit off (sig.tyNear .tc .vmem i).shape.size inb).toLoadRect}
    {k : ((sig.tyNear .tc .vmem i).Contents (Elt F)) → Prog (TpuEff nD τ sig (Elt F) Λ₀ .tc) α} {Q : α → sProp 𝕄} :
    owns (c : Thread nD τ) (Memref.whole ⟨.vmem, i, hκ⟩) fullShare X
      ⊢ iprop((owns (c : Thread nD τ) (Memref.whole ⟨.vmem, i, hκ⟩) fullShare X -∗ wpc c (k X) Q)
        -∗ wpc c (.op (.load (Memref.whole ⟨.vmem, i, hκ⟩) (Rect.unit off (sig.tyNear .tc .vmem i).shape.size inb).toLoadRect hl) k) Q) := by
  subst ho
  rw [owns_whole]
  exact wp_load_whole 𝒱₀ (c : Thread nD τ) none Set.univ (hl := hl)

theorem wp_store_all {α : Type} (c : Dev nD) (i : Fin (sig.nNear .tc .vmem)) (hκ : sig.names .tc .vmem i = true)
    {off : Fin (sig.tyNear .tc .vmem i).shape.rank → ℕ} (ho : off = fun _ => 0) {inb : ∀ a, off a + (sig.tyNear .tc .vmem i).shape.size a ≤ (sig.tyNear .tc .vmem i).shape.size a}
    {w X : (sig.tyNear .tc .vmem i).Contents (Elt F)} (hw : w = X)
    {hx : ((Memref.whole ⟨.vmem, i, hκ⟩ : Memref sig .tc _ _ _).access (Rect.unit off (sig.tyNear .tc .vmem i).shape.size inb)).Stores Finset.univ} {hm}
    {k : PUnit → Prog (TpuEff nD τ sig (Elt F) Λ₀ .tc) α} {Q : α → sProp 𝕄} :
    anyAt (F := F) (Memref.whole ⟨.vmem, i, hκ⟩) c
      ⊢ iprop((owns (c : Thread nD τ) (Memref.whole ⟨.vmem, i, hκ⟩) fullShare X -∗ wpc c (k ⟨⟩) Q)
        -∗ wpc c (.op (.store (Memref.whole ⟨.vmem, i, hκ⟩) (Rect.unit off (sig.tyNear .tc .vmem i).shape.size inb) w Finset.univ hx hm) k) Q) := by
  subst ho hw
  unfold anyAt
  simp only [owns_whole, Memref.view_whole, View.set_whole]
  iintro ⟨%f, H⟩
  iapply (wp_store_whole 𝒱₀ (c : Thread nD τ) none Set.univ (w := w) (hx := hx) (hm := hm)) $$ H

/-- A load whose result nothing reads. -/
theorem wp_load_dead {α : Type} {s : Shape} {e : EltTy} (c : Dev nD) (M : Memref sig .tc .vmem s e) (r : Rect s)
    {hl : M.view.LoadsAt r} {k : (r.shape.Idx → Elt F e) → Prog (TpuEff nD τ sig (Elt F) Λ₀ .tc) α} {Q : α → sProp 𝕄} :
    anyAt (F := F) M c ⊢ iprop((∀ v, anyAt (F := F) M c -∗ wpc c (k v) Q) -∗ wpc c (.op (.load M r hl) k) Q) := by
  unfold anyAt
  iintro ⟨%f, H⟩ Hk
  iapply (wp_load_rect 𝒱₀ (c : Thread nD τ) none Set.univ (m := M) (r := r) (hl := hl) (S := M.view.set) (q := fullShare) (f := f)
    (View.set_slice_subset _ _)) $$ H
  iintro H
  iapply Hk
  iexists f
  iexact H

/-- Half of the columns of an input weight, and half of the rows of an output weight. -/
theorem wp_load_cols {α : Type} (c : Dev nD) (h : ℕ) {X : FVec F S1024x2048 .bf16} {hl : wibM.view.LoadsAt (colRect h)}
    {k : ((colRect h).shape.Idx → Elt F .bf16) → Prog (TpuEff nD τ sig (Elt F) Λ₀ .tc) α} {Q : α → sProp 𝕄} :
    owns (c : Thread nD τ) wibM fullShare X
      ⊢ iprop((owns (c : Thread nD τ) wibM fullShare X -∗ wpc c (k (cols h X)) Q) -∗ wpc c (.op (.load wibM (colRect h).toLoadRect hl) k) Q) := by
  rw [owns_whole]
  iintro H
  iapply (wp_load_rect 𝒱₀ (c : Thread nD τ) none Set.univ (m := wibM) (r := colRect h) (hl := hl) (S := Finset.univ) (Finset.subset_univ _)) $$ H
theorem wp_load_rows {α : Type} (c : Dev nD) (h : ℕ) {X : FVec F S2048x1024 .bf16} {hl : wobM.view.LoadsAt (rowRect h)}
    {k : ((rowRect h).shape.Idx → Elt F .bf16) → Prog (TpuEff nD τ sig (Elt F) Λ₀ .tc) α} {Q : α → sProp 𝕄} :
    owns (c : Thread nD τ) wobM fullShare X
      ⊢ iprop((owns (c : Thread nD τ) wobM fullShare X -∗ wpc c (k (rows h X)) Q) -∗ wpc c (.op (.load wobM (rowRect h).toLoadRect hl) k) Q) := by
  rw [owns_whole]
  iintro H
  iapply (wp_load_rect 𝒱₀ (c : Thread nD τ) none Set.univ (m := wobM) (r := rowRect h) (hl := hl) (S := Finset.univ) (Finset.subset_univ _)) $$ H

/-- The half of the send buffer of exchange `i`: read for nothing, and written. -/
theorem wp_load_send {α : Type} (c : Dev nD) (i : ℕ) {hl : (Memref.whole cc0_scratch5 : Memref sig .tc .vmem S2x64x1024 .bf16).view.LoadsAt (sendRect i)}
    {k : ((sendRect i).shape.Idx → Elt F .bf16) → Prog (TpuEff nD τ sig (Elt F) Λ₀ .tc) α} {Q : α → sProp 𝕄} :
    sendAny (F := F) i c ⊢ iprop((∀ v, sendAny (F := F) i c -∗ wpc c (k v) Q)
      -∗ wpc c (.op (.load (Memref.whole cc0_scratch5) (sendRect i).toLoadRect hl) k) Q) := by
  unfold sendAny; exact wp_load_any c _ _ _
theorem wp_store_send {α : Type} (c : Dev nD) (i : ℕ) {w : (sendRect i).shape.Idx → Elt F .bf16} (hw : w = sentAt m i c)
    {hx : ((Memref.whole cc0_scratch5 : Memref sig .tc .vmem S2x64x1024 .bf16).access (sendRect i)).Stores Finset.univ} {hm}
    {k : PUnit → Prog (TpuEff nD τ sig (Elt F) Λ₀ .tc) α} {Q : α → sProp 𝕄} :
    sendAny (F := F) i c ⊢ iprop((sendHas i (sentAt m i c) c -∗ wpc c (k ⟨⟩) Q)
      -∗ wpc c (.op (.store (Memref.whole cc0_scratch5) (sendRect i) w Finset.univ hx hm) k) Q) := by
  unfold sendAny sendHas; exact wp_store_any c _ _ _ hw

/-! ## The copies of the weights -/

section Copies
variable {s : Shape} {e : EltTy} (q : DmaSem sig) (src : ℕ → Memref sig .tc .hbm s e) (dst : Memref sig .tc .vmem s e)

abbrev hbmAt (r : ℕ) (c : Dev nD) : sProp 𝕄 :=
  (src r).view.loc (c : Thread nD τ) ↦[(src r).view.set]{fullShare} m ((src r).view.loc (c : Thread nD τ))
abbrev srcAt (r : ℕ) (c : Dev nD) : s.Idx → Elt F e := (src r).view.read (Elt F) (m ((src r).view.loc (c : Thread nD τ)))

/-- Before the copy of layer `r`'s weight, -/
def Idle (r : ℕ) (c : Dev nD) : sProp 𝕄 :=
  iprop(atPos ER ((c : Thread nD τ), .dma q) r ∅ 0 ∗ reached ER ((c : Thread nD τ), .dma q) r
    ∗ bigSep (Finset.Ico r 3) (fun t => iprop(dutyTok ER ((c : Thread nD τ), .dma q) t 0 ∗ hbmAt m src t c))
    ∗ bigSep (Finset.Ico 0 r) (fun t => hbmAt m src t c))
/-- and while it runs. -/
def Busy (r : ℕ) (c : Dev nD) : sProp 𝕄 :=
  iprop(atPos ER ((c : Thread nD τ), .dma q) r ∅ 0 ∗ cred (tallyAt ((c : Thread nD τ), .dma q) () dst.view.dmaCredit)
    ∗ bigSep (Finset.Ico (r + 1) 3) (fun t => iprop(dutyTok ER ((c : Thread nD τ), .dma q) t 0 ∗ hbmAt m src t c))
    ∗ bigSep (Finset.Ico 0 r) (fun t => hbmAt m src t c))

variable {q} {src} {dst}

theorem wp_copy_start {α : Type} (K : Dev nD × Fin 64 → ℕ) (c : Dev nD) (r : ℕ) (hr : r < 3) (hq : 2 ≤ q.val)
    (hd : ∀ r < 3, (sched m).duties ((c : Thread nD τ), .dma q) r = {0}) (ha : ∀ r, (sched m).amount ((c : Thread nD τ), .dma q) r 0 = dst.view.dmaCredit)
    (hp : ∀ r, (sched m).payload ((c : Thread nD τ), .dma q) r 0 = iprop(owns (c : Thread nD τ) dst fullShare (srcAt m src r c) ∗ hbmAt m src r c))
    {sm : DmaSem sig} (hs : sm = q) {S : Memref sig .tc .hbm s e} (hS : S = src r) {h1 h2 h3}
    {k : PUnit → Prog (TpuEff nD τ sig (Elt F) Λ₀ .tc) α} {Q : α → sProp 𝕄} :
    iprop(Env m K ∗ Idle m q src r c ∗ anyAt (F := F) dst c)
      ⊢ iprop((Busy m q src dst r c -∗ wpc c (k ⟨⟩) Q)
        -∗ wpc c (.op (.enqueueDma S (.here dst) (.dma sm) h1 h2 h3) k) Q) := by
  subst hs hS
  unfold Idle Busy anyAt
  rw [bigSep_Ico_succ_bot hr]
  iintro ⟨#Henv, ⟨Hat, #Hre, ⟨⟨Ht, Hs⟩, Htodo⟩, Hdone⟩, ⟨%fd, Hd⟩⟩ Hk
  iapply (Rounds.wp_copy_pointsTo 𝒱₀ ER (sched m) (c : Thread nD τ) none (src := src r) (dst := dst) (κ := K (c, sm)) (r := r) (d := 0) (q := fullShare)
      (fs := m ((src r).view.loc (c : Thread nD τ))) (fd := fd) (sem := .dma sm)
      (by rw [hd r hr]; exact Finset.mem_singleton_self _) () dst.view.dmaCredit rfl (ha r)
      (by
        rw [hp r]; unfold owns
        iintro ⟨H, H'⟩
        isplitl [H]
        · iexists _
          isplitr; rotate_left
          · iexact H
          · ipureintro; exact View.read_write_univ _ _
        · iexact H')) $$ [Ht Hs Hd]
  · isplitr; · iapply (env_dma m K c sm hq); iexact Henv
    isplitl [Hs]; · iexact Hs
    isplitl [Hd]; · iexact Hd
    isplitl [Ht]; · iexact Ht
    iexact Hre
  iintro Hc
  iapply Hk
  isplitl [Hat]; · iexact Hat
  isplitl [Hc]; · iexact Hc
  isplitl [Htodo]; · iexact Htodo
  iexact Hdone

theorem wp_copy_wait {α : Type} (K : Dev nD × Fin 64 → ℕ) (c : Dev nD) (r : ℕ) (hr : r < 3) (hq : 2 ≤ q.val) (hq' : q.val < 4) (j n s' : ℕ)
    (hE : ∀ r < 3, (sched m).expect ((c : Thread nD τ), .dma q) r = dst.view.dmaCredit)
    (hp : ∀ r < 3, bigSep ((sched m).duties ((c : Thread nD τ), .dma q) r \ ∅) (fun d => (sched m).payload ((c : Thread nD τ), .dma q) r d)
      = iprop(owns (c : Thread nD τ) dst fullShare (srcAt m src r c) ∗ hbmAt m src r c))
    {sm : DmaSem sig} (hs : sm = q) {sp : Space} {S : Memref sig .tc sp s e} {h1 h2}
    {k : PUnit → Prog (TpuEff nD τ sig (Elt F) Λ₀ .tc) α} {Q : α → sProp 𝕄} :
    iprop(Env m K ∗ Owe (F := F) c j n s' ∗ Busy m q src dst r c)
      ⊢ iprop(((Owe (F := F) c j n s' ∗ Idle m q src (r + 1) c ∗ owns (c : Thread nD τ) dst fullShare (srcAt m src r c)) -∗ wpc c (k ⟨⟩) Q)
        -∗ wpc c (.op (.waitDma2 sm S dst h1 h2) k) Q) := by
  subst hs
  unfold Owe Idle Busy
  rw [bigSep_Ico_succ_top (Nat.zero_le r)]
  iintro ⟨#Henv, ⟨%W, HO⟩, Hat, Hc, Htodo, Hdone⟩ Hk
  iapply (Rounds.wp_wait_rest_token 𝒱₀ ER (sched m) (c : Thread nD τ) none (κ := K (c, sm))
      (wpE_waitDma2_eq 𝒱₀ (c : Thread nD τ) none Set.univ) (Set.mem_univ _) () (O := owed c j n s') (W := W) (R := r) (m := 0) (T := ∅)
      ((Nat.zero_add _).trans (hE r hr).symm)) $$ [Hc HO Hat]
  · isplitr; · iapply (env_dma m K c sm hq); iexact Henv
    isplitl [Hc]; · iexact Hc
    isplitl [HO]; · iexact HO
    isplitr
    · iapply (env_may m K c (.dma sm) (fun _ => by rw [lv_low hq']; omega) (fun _ => by rw [lv_low hq']; omega) (fun _ => by rw [lv_low hq']; omega))
      iexact Henv
    iexact Hat
  iintro ⟨HO, Hat, Hre, Hpay⟩
  ihave Hp := (Entails.of_eq (hp r hr)) $$ Hpay
  icases Hp with ⟨Hd, Hs⟩
  iapply Hk
  isplitl [HO]; · iexists _; iexact HO
  isplitr [Hd]
  · isplitl [Hat]; · iexact Hat
    isplitl [Hre]; · iexact Hre
    isplitl [Htodo]; · iexact Htodo
    isplitl [Hs]; · iexact Hs
    iexact Hdone
  · iexact Hd

end Copies

/-! ## The barrier and the closing handshake -/

/-- What the barrier's signals from `j` on hand over; -/
def Knock (c : Dev nD) (j : ℕ) : sProp 𝕄 :=
  bigSep (Finset.Ico j 5) fun b => iprop(dutyTok ER (barC (px (Fin.ofNat 5 b) c)) 0 (Fin.ofNat 5 b) ∗ barPay (F := F) (px (Fin.ofNat 5 b) c) (Fin.ofNat 5 b))
/-- what a device needs to wait there; -/
def AtBar (c : Dev nD) : sProp 𝕄 := iprop(atPos ER (barC c) 0 ∅ 0 ∗ cred (tallyAt (barC c) () 5))
/-- and the same for the closing handshake. -/
def Bye (c : Dev nD) (j : ℕ) : sProp 𝕄 := bigSep (Finset.Ico j 5) fun b => dutyTok ER (secC (px (Fin.ofNat 5 b) c)) 0 (Fin.ofNat 5 b)
def AtSec (c : Dev nD) : sProp 𝕄 := iprop(atPos ER (secC c) 0 ∅ 0 ∗ cred (tallyAt (secC c) () 5))

theorem wp_signal_bar {α : Type} (K : Dev nD × Fin 64 → ℕ) (c : Dev nD) (j : ℕ) (hj : j < 5) {dev : Dev nD} (hdev : dev = px (Fin.ofNat 5 j) c)
    {sm : Sem sig} (hs : sm = barS) {x : ℕ} (hx : x = 1) {k : PUnit → Prog (TpuEff nD τ sig (Elt F) Λ₀ .tc) α} {Q : α → sProp 𝕄} :
    iprop(Env m K ∗ Owe (F := F) c j 0 0 ∗ Knock (F := F) c j)
      ⊢ iprop(((Owe (F := F) c (j + 1) 0 0 ∗ Knock (F := F) c (j + 1)) -∗ wpc c (k ⟨⟩) Q)
        -∗ wpc c (.op (.semSignal (dev : Thread nD τ) sm x) k) Q) := by
  subst hdev hs hx
  unfold Owe Knock
  rw [bigSep_Ico_succ_bot hj]
  iintro ⟨#Henv, ⟨%W, HO⟩, ⟨Ht, Hp⟩, Hrest⟩ Hk
  iapply (Rounds.wp_signal 𝒱₀ ER (sched m) (c : Thread nD τ) none (dst := (px (Fin.ofNat 5 j) c : Thread nD τ)) (sem := barS) (r := 0)
      (κ := K (px (Fin.ofNat 5 j) c, 0)) (d := Fin.ofNat 5 j)
      (by rw [duties_bar]; exact Finset.mem_univ _) (amount_reg m _ _ 0 _) () (owed c (j + 1) 0 0) (owed_bar c hj 0 0)) $$ [HO Ht Hp]
  · isplitr; · iapply (env_bar m K (px (Fin.ofNat 5 j) c)); iexact Henv
    isplitl [HO]; · iexact HO
    isplitl [Ht]; · iexact Ht
    isplitl [Hp]; · rw [payload_bar]; iexact Hp
    iapply (reached_bar m K (px (Fin.ofNat 5 j) c)); iexact Henv
  iintro HO
  iapply Hk
  isplitl [HO]; · iexists W; iexact HO
  iexact Hrest

theorem wp_signal_sec {α : Type} (K : Dev nD × Fin 64 → ℕ) (c : Dev nD) (j : ℕ) (hj : j < 5) {dev : Dev nD} (hdev : dev = px (Fin.ofNat 5 j) c)
    {sm : Sem sig} (hs : sm = secS) {x : ℕ} (hx : x = 1) {k : PUnit → Prog (TpuEff nD τ sig (Elt F) Λ₀ .tc) α} {Q : α → sProp 𝕄} :
    iprop(Env m K ∗ Owe (F := F) c 5 30 j ∗ Bye (F := F) c j)
      ⊢ iprop(((Owe (F := F) c 5 30 (j + 1) ∗ Bye (F := F) c (j + 1)) -∗ wpc c (k ⟨⟩) Q)
        -∗ wpc c (.op (.semSignal (dev : Thread nD τ) sm x) k) Q) := by
  subst hdev hs hx
  unfold Owe Bye
  rw [bigSep_Ico_succ_bot hj]
  iintro ⟨#Henv, ⟨%W, HO⟩, Ht, Hrest⟩ Hk
  iapply (Rounds.wp_signal 𝒱₀ ER (sched m) (c : Thread nD τ) none (dst := (px (Fin.ofNat 5 j) c : Thread nD τ)) (sem := secS) (r := 0)
      (κ := K (px (Fin.ofNat 5 j) c, 1)) (d := Fin.ofNat 5 j)
      (by rw [duties_sec]; exact Finset.mem_univ _) (amount_reg m _ _ 0 _) () (owed c 5 30 (j + 1)) (owed_sec c 5 30 hj)) $$ [HO Ht]
  · isplitr; · iapply (env_sec m K (px (Fin.ofNat 5 j) c)); iexact Henv
    isplitl [HO]; · iexact HO
    isplitl [Ht]; · iexact Ht
    isplitr; · rw [payload_sec]; iempintro
    iapply (reached_sec m K (px (Fin.ofNat 5 j) c)); iexact Henv
  iintro HO
  iapply Hk
  isplitl [HO]; · iexists W; iexact HO
  iexact Hrest

theorem wp_wait_bar {α : Type} (K : Dev nD × Fin 64 → ℕ) (c : Dev nD) {sm : Sem sig} (hs : sm = barS) {x : ℕ} (hx : x = 5)
    {k : PUnit → Prog (TpuEff nD τ sig (Elt F) Λ₀ .tc) α} {Q : α → sProp 𝕄} :
    iprop(Env m K ∗ Owe (F := F) c 5 0 0 ∗ AtBar (F := F) c ∗ bigSep (Finset.Ico 0 30) (fun i => Ready (F := F) i c))
      ⊢ iprop(((Owe (F := F) c 5 0 0 ∗ semVal (barC c) 0 ∗ Todo (F := F) c 0) -∗ wpc c (k ⟨⟩) Q)
        -∗ wpc c (.op (.semWait sm x) k) Q) := by
  subst hs hx
  unfold Owe AtBar Todo
  rw [bigSep_sep']
  iintro ⟨#Henv, ⟨%W, HO⟩, ⟨Hat, Hc⟩, Hready⟩ Hk
  iapply (Rounds.wp_wait_rest_token 𝒱₀ ER (sched m) (c : Thread nD τ) none (κ := K (c, 0))
      (wpE_semWait_eq 𝒱₀ (c : Thread nD τ) none Set.univ) (Set.mem_univ _) () (O := owed c 5 0 0) (W := W) (R := 0) (m := 0) (T := ∅)
      ((Nat.zero_add _).trans (expect_reg m c barS).symm)) $$ [Hc HO Hat]
  · isplitr; · iapply (env_bar m K c); iexact Henv
    isplitl [Hc]; · iexact Hc
    isplitl [HO]; · iexact HO
    isplitr
    · iapply (env_may m K c (.reg barS) (fun h => absurd h (by decide)) (fun _ => by decide) (fun _ => by decide)); iexact Henv
    iexact Hat
  iintro ⟨HO, Hat, -, Hpay⟩
  ihave Hp := (Entails.of_eq (rest_bar m c)) $$ Hpay
  imod (cell_close ER (sched m) (Set.mem_univ (K (c, 0))) (fun h => h) (R := 1) (fun r hr => duties_late_reg m c barS r hr)) $$ [Hat] with Hv
  · isplitr; · iapply (env_bar m K c); iexact Henv
    iexact Hat
  iapply Hk
  isplitl [HO]; · iexists _; iexact HO
  isplitl [Hv]; · iexact Hv
  isplitl [Hready]; · iexact Hready
  iexact Hp

theorem wp_wait_sec {α : Type} (K : Dev nD × Fin 64 → ℕ) (c : Dev nD) {sm : Sem sig} (hs : sm = secS) {x : ℕ} (hx : x = 5)
    {k : PUnit → Prog (TpuEff nD τ sig (Elt F) Λ₀ .tc) α} {Q : α → sProp 𝕄} :
    iprop(Env m K ∗ Owe (F := F) c 5 30 5 ∗ AtSec (F := F) c)
      ⊢ iprop(((Owe (F := F) c 5 30 5 ∗ semVal (secC c) 0) -∗ wpc c (k ⟨⟩) Q)
        -∗ wpc c (.op (.semWait sm x) k) Q) := by
  subst hs hx
  unfold Owe AtSec
  iintro ⟨#Henv, ⟨%W, HO⟩, Hat, Hc⟩ Hk
  iapply (Rounds.wp_wait_rest_token 𝒱₀ ER (sched m) (c : Thread nD τ) none (κ := K (c, 1))
      (wpE_semWait_eq 𝒱₀ (c : Thread nD τ) none Set.univ) (Set.mem_univ _) () (O := owed c 5 30 5) (W := W) (R := 0) (m := 0) (T := ∅)
      ((Nat.zero_add _).trans (expect_reg m c secS).symm)) $$ [Hc HO Hat]
  · isplitr; · iapply (env_sec m K c); iexact Henv
    isplitl [Hc]; · iexact Hc
    isplitl [HO]; · iexact HO
    isplitr
    · iapply (env_may m K c (.reg secS) (fun h => absurd h (by decide)) (fun h => absurd h (by decide)) (fun h => absurd h (by decide))); iexact Henv
    iexact Hat
  iintro ⟨HO, Hat, -, -⟩
  imod (cell_close ER (sched m) (Set.mem_univ (K (c, 1))) (fun h => h) (R := 1) (fun r hr => duties_late_reg m c secS r hr)) $$ [Hat] with Hv
  · isplitr; · iapply (env_sec m K c); iexact Henv
    iexact Hat
  iapply Hk
  isplitl [HO]; · iexists _; iexact HO
  iexact Hv

end Cert.Mlp

end
-- ==== Proof.Deal.lean ====
/-
What the launch makes and how it is dealt: the cells of the protocol, the tokens of their duties, which
go to the devices that pay them, and the credit for what a device's partners owe it.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Conjunctions over the cells of a device and over the bits -/

theorem cells_split : (Finset.univ.erase (0 : Fin 64)) = {1} ∪ ({2} ∪ ({3} ∪ ((Finset.Ico 0 30).image sndD ∪ (Finset.Ico 0 30).image rcvD))) := by decide +kernel

theorem snd_injOn : Set.InjOn (sndD : ℕ → Fin 64) (Finset.Ico 0 30 : Finset ℕ) := fun a ha b hb h => by
  have ha' := (Finset.mem_Ico.mp ha).2
  have hb' := (Finset.mem_Ico.mp hb).2
  rw [← slotOf_snd a ha', ← slotOf_snd b hb', h]
theorem rcv_injOn : Set.InjOn (rcvD : ℕ → Fin 64) (Finset.Ico 0 30 : Finset ℕ) := fun a ha b hb h => by
  have ha' := (Finset.mem_Ico.mp ha).2
  have hb' := (Finset.mem_Ico.mp hb).2
  rw [← slotOf_rcv a ha', ← slotOf_rcv b hb', h]

/-- A conjunction over the cells of one device, cell by cell and exchange by exchange. -/
theorem by_cell (Φ : Fin 64 → sProp 𝕄) :
    bigSep Finset.univ Φ = iprop(Φ 0 ∗ Φ 1 ∗ Φ 2 ∗ Φ 3 ∗ bigSep (Finset.Ico 0 30) (fun i => Φ (sndD i)) ∗ bigSep (Finset.Ico 0 30) (fun i => Φ (rcvD i))) := by
  rw [bigSep_univ_at Φ 0, cells_split, bigSep_union (by decide +kernel), bigSep_union (by decide +kernel), bigSep_union (by decide +kernel),
    bigSep_union (by decide +kernel), bigSep_singleton, bigSep_singleton, bigSep_singleton, bigSep_image_of_injOn snd_injOn, bigSep_image_of_injOn rcv_injOn]
  rfl

theorem bits_image : (Finset.univ : Finset (Fin 5)) = (Finset.Ico 0 5).image (Fin.ofNat 5) := by decide +kernel
/-- A conjunction over the five bits, by their numbers. -/
theorem by_number (Φ : Fin 5 → sProp 𝕄) : bigSep Finset.univ Φ = bigSep (Finset.Ico 0 5) (fun b => Φ (Fin.ofNat 5 b)) := by
  rw [bits_image, bigSep_image_of_injOn (fun a ha b hb h => by
    have ha' := (Finset.mem_Ico.mp ha).2
    have hb' := (Finset.mem_Ico.mp hb).2
    have h' : a % 5 = b % 5 := congrArg Fin.val h
    omega)]

/-- What every device has of its partner's share, dealt around: the partner map is a permutation of the devices. -/
theorem deal_around (s : Finset ℕ) (bit : ℕ → Fin 5) (Φ : ℕ → Dev nD → sProp 𝕄) :
    bigSep Finset.univ (fun c : Dev nD => bigSep s fun i => Φ i c) = bigSep Finset.univ (fun c : Dev nD => bigSep s fun i => Φ i (px (bit i) c)) := by
  induction s using Finset.induction_on with
  | empty => simp only [bigSep_empty]
  | insert a s ha ih =>
    rw [bigSep_congr (s := Finset.univ) (fun (c : Dev nD) _ => bigSep_insert (Φ := fun i => Φ i c) ha),
      bigSep_congr (s := Finset.univ) (fun (c : Dev nD) _ => bigSep_insert (Φ := fun i => Φ i (px (bit i) c)) ha)]
    refine (bigSep_sep' Finset.univ (Φ a) (fun c => bigSep s fun i => Φ i c)).trans (Eq.trans ?_
      (bigSep_sep' Finset.univ (fun c => Φ a (px (bit a) c)) (fun c => bigSep s fun i => Φ i (px (bit i) c))).symm)
    rw [ih, bigSep_univ_equiv (pxEquiv (bit a)) (Φ a)]; rfl

/-! ## The cells and the tokens the launch makes -/

theorem csem_injective : Function.Injective csem := by decide +kernel
theorem kcell_injective : Function.Injective (kcell : Dev nD × Fin 64 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The round and the duty of a token: the two regular semaphores have five duties in one round, the others one duty in each round. -/
def tokRound (x : Fin 64 × Fin 5) : ℕ := if x.1.val < 2 then 0 else x.2.val
def tokDuty (x : Fin 64 × Fin 5) : Fin 5 := if x.1.val < 2 then x.2 else 0
abbrev tokOf (x : Dev nD × Fin 64 × Fin 5) : GSem nD τ sig × ℕ × Fin 5 := (kcell (x.1, x.2.1), tokRound x.2, tokDuty x.2)
theorem tokOf_injective : Function.Injective tokOf := by
  rintro ⟨c, j, d⟩ ⟨c', j', d'⟩ h
  have h1 : (c, j) = (c', j') := kcell_injective (congrArg Prod.fst h)
  obtain ⟨rfl, rfl⟩ := Prod.mk.inj h1
  have h2 : tokRound (j, d) = tokRound (j, d') := congrArg (fun y => y.2.1) h
  have h3 : tokDuty (j, d) = tokDuty (j, d') := congrArg (fun y => y.2.2) h
  unfold tokRound at h2; unfold tokDuty at h3
  dsimp only at h2 h3
  by_cases hj : j.val < 2
  · rw [if_pos hj, if_pos hj] at h3; rw [h3]
  · rw [if_neg hj, if_neg hj] at h2; rw [Fin.ext h2]
def allToks : Finset (GSem nD τ sig × ℕ × Fin 5) := Finset.univ.map ⟨tokOf, tokOf_injective⟩

/-- The tokens of one device's own cells, as made; -/
def toks (c : Dev nD) : sProp 𝕄 :=
  bigSep Finset.univ fun j : Fin 64 => bigSep Finset.univ fun d : Fin 5 => dutyTok ER (kcell (c, j)) (tokRound (j, d)) (tokDuty (j, d))
/-- those the protocol uses, by cell; -/
def ownToks (c : Dev nD) : sProp 𝕄 :=
  iprop(bigSep (Finset.Ico 0 5) (fun b => dutyTok ER (barC c) 0 (Fin.ofNat 5 b)) ∗ bigSep (Finset.Ico 0 5) (fun b => dutyTok ER (secC c) 0 (Fin.ofNat 5 b))
    ∗ bigSep (Finset.Ico 0 3) (fun t => dutyTok ER (cpiC c) t 0) ∗ bigSep (Finset.Ico 0 3) (fun t => dutyTok ER (cpoC c) t 0)
    ∗ bigSep (Finset.Ico 0 30) (fun i => dutyTok ER (sndC i c) 0 0) ∗ bigSep (Finset.Ico 0 30) (fun i => dutyTok ER (rcvC i c) 0 0))
/-- and those a device pays with: its partners' signals and receive counts, its own copies and send counts. -/
def payToks (c : Dev nD) : sProp 𝕄 :=
  iprop(bigSep (Finset.Ico 0 5) (fun b => dutyTok ER (barC (px (Fin.ofNat 5 b) c)) 0 (Fin.ofNat 5 b)) ∗ Bye (F := F) c 0
    ∗ bigSep (Finset.Ico 0 3) (fun t => dutyTok ER (cpiC c) t 0) ∗ bigSep (Finset.Ico 0 3) (fun t => dutyTok ER (cpoC c) t 0)
    ∗ bigSep (Finset.Ico 0 30) (fun i => dutyTok ER (sndC i c) 0 0) ∗ bigSep (Finset.Ico 0 30) (fun i => dutyTok ER (rcvC i (pa i c)) 0 0))

/-- The duties of a cell with one token a round, by round; -/
theorem toks_dma (c : Dev nD) (j : Fin 64) (hj : 2 ≤ j.val) :
    (bigSep Finset.univ fun d : Fin 5 => (dutyTok ER (kcell (c, j)) (tokRound (j, d)) (tokDuty (j, d)) : sProp 𝕄))
      = bigSep Finset.univ fun d : Fin 5 => dutyTok ER ((c : Thread nD τ), .dma j) d.val 0 := by
  refine bigSep_congr fun d _ => ?_
  unfold tokRound tokDuty kcell
  rw [csem_dma j hj, if_neg (by dsimp only; omega), if_neg (by dsimp only; omega)]
/-- one of them, -/
theorem toks_one (c : Dev nD) (j : Fin 64) (hj : 2 ≤ j.val) :
    (bigSep Finset.univ fun d : Fin 5 => (dutyTok ER (kcell (c, j)) (tokRound (j, d)) (tokDuty (j, d)) : sProp 𝕄)) ⊢ dutyTok ER ((c : Thread nD τ), .dma j) 0 0 := by
  rw [toks_dma c j hj]
  exact bigSep_elim (Φ := fun d : Fin 5 => (dutyTok ER ((c : Thread nD τ), .dma j) d.val 0 : sProp 𝕄)) (Finset.mem_univ 0)
/-- or the three of the layers. -/
theorem toks_three (c : Dev nD) (j : Fin 64) (hj : 2 ≤ j.val) :
    (bigSep Finset.univ fun d : Fin 5 => (dutyTok ER (kcell (c, j)) (tokRound (j, d)) (tokDuty (j, d)) : sProp 𝕄))
      ⊢ bigSep (Finset.Ico 0 3) (fun t => dutyTok ER ((c : Thread nD τ), .dma j) t 0) := by
  rw [toks_dma c j hj, by_number]
  refine BI.Entails.trans (bigSep_subset (t := Finset.Ico 0 3) (by decide)) (Entails.of_eq (bigSep_congr fun t ht => ?_))
  have h3 := (Finset.mem_Ico.mp ht).2
  rw [show (Fin.ofNat 5 t).val = t from Nat.mod_eq_of_lt (by omega)]

theorem toks_own (c : Dev nD) : toks (F := F) c ⊢ ownToks c := by
  unfold toks ownToks
  rw [by_cell]
  refine BI.sep_mono ?_ (BI.sep_mono ?_ (BI.sep_mono ?_ (BI.sep_mono ?_ (BI.sep_mono ?_ ?_))))
  · rw [by_number]; exact BI.Entails.refl _
  · rw [by_number]; exact BI.Entails.refl _
  · exact toks_three c 2 (by decide)
  · exact toks_three c 3 (by decide)
  · exact bigSep_mono fun i hi => toks_one c (sndD i) (by have := four_le_snd (Finset.mem_Ico.mp hi).2; omega)
  · exact bigSep_mono fun i hi => toks_one c (rcvD i) (by have := four_le_rcv (Finset.mem_Ico.mp hi).2; omega)

/-- The tokens dealt around. -/
theorem toks_around : bigSep Finset.univ (fun c : Dev nD => ownToks (F := F) c) = bigSep Finset.univ (fun c : Dev nD => payToks (F := F) c) := by
  unfold ownToks payToks Bye
  simp only [bigSep_sep']
  rw [deal_around (Finset.Ico 0 5) (Fin.ofNat 5) (fun b c => (dutyTok ER (barC c) 0 (Fin.ofNat 5 b) : sProp 𝕄)),
    deal_around (Finset.Ico 0 5) (Fin.ofNat 5) (fun b c => (dutyTok ER (secC c) 0 (Fin.ofNat 5 b) : sProp 𝕄)),
    deal_around (Finset.Ico 0 30) bitOf (fun i c => (dutyTok ER (rcvC i c) 0 0 : sProp 𝕄))]

/-! ## The positions -/

/-- A device's positions at its cells, by cell. -/
def positions (c : Dev nD) : sProp 𝕄 :=
  iprop(atPos ER (barC c) 0 ∅ 0 ∗ atPos ER (secC c) 0 ∅ 0 ∗ atPos ER (cpiC c) 0 ∅ 0 ∗ atPos ER (cpoC c) 0 ∅ 0
    ∗ bigSep (Finset.Ico 0 30) (fun i => atPos ER (sndC i c) 0 ∅ 0) ∗ bigSep (Finset.Ico 0 30) (fun i => atPos ER (rcvC i c) 0 ∅ 0))
theorem snd_cell (c : Dev nD) {i : ℕ} (hi : i < 30) : kcell (c, sndD i) = sndC i c := by
  unfold kcell; rw [csem_dma (sndD i) (by have := four_le_snd hi; omega)]
theorem rcv_cell (c : Dev nD) {i : ℕ} (hi : i < 30) : kcell (c, rcvD i) = rcvC i c := by
  unfold kcell; rw [csem_dma (rcvD i) (by have := four_le_rcv hi; omega)]
/-- A conjunction over a device's cells, of whatever one holds of a cell. -/
theorem by_kcell (Φ : GSem nD τ sig → sProp 𝕄) (c : Dev nD) :
    (bigSep Finset.univ fun j : Fin 64 => Φ (kcell (c, j)))
      = iprop(Φ (barC c) ∗ Φ (secC c) ∗ Φ (cpiC c) ∗ Φ (cpoC c) ∗ bigSep (Finset.Ico 0 30) (fun i => Φ (sndC i c)) ∗ bigSep (Finset.Ico 0 30) (fun i => Φ (rcvC i c))) := by
  rw [by_cell, bigSep_congr (s := Finset.Ico 0 30) (fun i hi => congrArg Φ (snd_cell c (Finset.mem_Ico.mp hi).2)),
    bigSep_congr (s := Finset.Ico 0 30) (fun i hi => congrArg Φ (rcv_cell c (Finset.mem_Ico.mp hi).2))]
  rfl
theorem positions_eq (c : Dev nD) : (bigSep Finset.univ fun j : Fin 64 => (atPos ER (kcell (c, j)) 0 ∅ 0 : sProp 𝕄)) = positions c :=
  by_kcell (fun g => atPos ER g 0 ∅ 0) c

/-! ## The credit of the launch -/

theorem cred_five (g : GSem nD τ sig) : bigSep (Finset.Ico 0 5) (fun _ => (cred (tallyAt g () 1) : sProp 𝕄)) = cred (tallyAt g () 5) := by
  rw [← Pipeline.cred_finsetSum, show (∑ _a ∈ Finset.Ico 0 5, tallyAt g () 1 : CellTallies nD τ sig Unit) = tallyAt g () 5 by
    simp only [Finset.sum_const, Nat.card_Ico, succ_nsmul, zero_nsmul, tallyAt_add, zero_add]]

/-- Every partner's debts are a device's credit: five signals at the barrier and five at the end, and one count for each exchange. -/
theorem credits (c : Dev nD) : (Pipeline.launchCred (fun d => owed d 0 0 0) c : sProp 𝕄)
    ⊢ iprop(cred (tallyAt (barC c) () 5) ∗ bigSep (Finset.Ico 0 30) (fun i => cred (tallyAt (rcvC i c) () N)) ∗ cred (tallyAt (secC c) () 5)) := by
  unfold owed
  rw [Pipeline.launchCred_add (fun d => barOwed d 0 + rcvOwed d 0) (fun d => secOwed d 0), Pipeline.launchCred_add (fun d => barOwed d 0) (fun d => rcvOwed d 0)]
  unfold barOwed rcvOwed secOwed
  rw [Pipeline.launchCred_sum, Pipeline.launchCred_sum, Pipeline.launchCred_sum, ← cred_five (barC c), ← cred_five (secC c)]
  iintro ⟨⟨H1, H2⟩, H3⟩
  isplitl [H1]
  · iapply (show _ ⊢ _ from bigSep_mono fun b _ => Pipeline.launchCred_tallyAt (.reg barS) (px (Fin.ofNat 5 b)) (px (Fin.ofNat 5 b)) (px_px _) (px_px _) () 1 c)
    iexact H1
  isplitl [H2]
  · iapply (show _ ⊢ _ from bigSep_mono fun i _ => Pipeline.launchCred_tallyAt (.dma (rcvD i)) (pa i) (pa i) (px_px _) (px_px _) () N c)
    iexact H2
  · iapply (show _ ⊢ _ from bigSep_mono fun b _ => Pipeline.launchCred_tallyAt (.reg secS) (px (Fin.ofNat 5 b)) (px (Fin.ofNat 5 b)) (px_px _) (px_px _) () 1 c)
    iexact H3

end Cert.Mlp

end
-- ==== Proof.Ghost.lean ====
/-
The ghost state of the launch: the invariants of all cells, made at once and known to all, and what each
device keeps for itself.
-/
module

public import proofs.«01_k».proof.Proof.Deal
public import proofs.«01_k».proof.Proof.Gen.KernelIdeal.Launch
public import Idealize.ShloMosaic.Lib.Pipeline.Launch
public import Idealize.ShloMosaic.Lib.Pipeline.Kit

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's own scoped semaphores: all the protocol's but the entry barrier's. -/
def osem (k : Fin 63) : SemLoc sig := csem k.succ

theorem cells_succ : (Finset.univ.erase (0 : Fin 64)) = Finset.univ.image (Fin.succ : Fin 63 → Fin 64) := by decide +kernel

/-- The entry barrier's semaphore is the launch's one unscoped semaphore, -/
theorem unscopedSems_bar (c : Dev nD) : (unscopedSems0 c : sProp 𝕄) = semVal (barC c) 0 := by
  unfold unscopedSems0; rw [bigSep_eq_bigSepL_of_eq [SemLoc.reg barS] (by decide +kernel) (by decide +kernel)]; rfl
/-- so a device's cells are its own semaphores and that one. -/
theorem cells_sems (c : Dev nD) :
    (bigSep Finset.univ fun j : Fin 64 => (semVal (kcell (c, j)) 0 : sProp 𝕄))
      = iprop(unscopedSems0 c ∗ Pipeline.ownSems0 (Ix := Unit) (Name := ℕ) (U := UU) (Lvl := ℕ) (Val := Elt F) (τ := τ) osem c) := by
  rw [bigSep_univ_at (fun j : Fin 64 => (semVal (kcell (c, j)) 0 : sProp 𝕄)) 0, cells_succ,
    bigSep_image_of_injOn (fun a _ b _ h => Fin.succ_injective _ h), unscopedSems_bar]
  rfl

/-! ## The launch's ghost state, dealt -/

/-- What the launch deals a device; -/
def G (c : Dev nD) : sProp 𝕄 :=
  iprop((bigSep Finset.univ fun j : Fin 64 => roundState ER (sched m) (kcell (c, j)) 0)
    ∗ (bigSep Finset.univ fun j : Fin 64 => iprop(atPos ER (kcell (c, j)) 0 ∅ 0 ∗ reached ER (kcell (c, j)) 0)) ∗ ownToks (F := F) c)
/-- what stays with it; -/
def linear (c : Dev nD) : sProp 𝕄 := iprop(positions (F := F) c ∗ payToks (F := F) c)
/-- and what it has of all once the cells' invariants are made. -/
def G' (c : Dev nD) : sProp 𝕄 := iprop(∃ K, records m K ∗ linear (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun j : Fin 64 => Φ (kcell (c, j)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks
    rw [bigSep_map, bigSep_univ_prod]
    refine bigSep_congr fun c _ => ?_
    unfold toks
    rw [bigSep_univ_prod]
    rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (bigSep_mono fun c _ => toks_own (F := F) c)) $$ Htok
  unfold G; simp only [bigSep_sep']
  isplitl [Hst']; · iexact Hst'
  isplitl [Hat' Hr']
  · isplitl [Hat'] <;> iassumption
  iexact Htok'

/-- The invariants of a device's cells, made from their counters at zero. -/
theorem cells_made (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ ownToks (F := F) c) := by
  unfold G
  iintro ⟨Hos, Hus, Hst, Hat, Htok⟩
  ihave Hv := (Entails.of_eq (cells_sems (F := F) c).symm) $$ [Hos Hus]
  · isplitl [Hus] <;> iassumption
  imod (show iprop((bigSep Finset.univ fun j : Fin 64 => semVal (kcell (c, j)) 0) ∗ bigSep Finset.univ fun j : Fin 64 => roundState ER (sched m) (kcell (c, j)) 0)
      ⊢ (|={Set.univ}=> bigSep Finset.univ fun j => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- Whatever all know can be given to each. -/
theorem share_known {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  BI.Entails.trans (BI.sep_mono (BI.bigSep_of_persistent Finset.univ R) (BI.Entails.refl _))
    ((Entails.of_eq (bigSep_sep' Finset.univ (fun _ : Dev nD => R) Φ).symm).trans (bigSep_mono fun c _ => h c))

/-- The invariants told to all, the tokens dealt around. -/
theorem deal :
    (bigSep Finset.univ fun c : Dev nD => iprop((bigSep Finset.univ fun j => iprop(∃ κ : ℕ, cellInv ER (sched m) κ (kcell (c, j))))
          ∗ (bigSep Finset.univ fun j => iprop(atPos ER (kcell (c, j)) 0 ∅ 0 ∗ reached ER (kcell (c, j)) 0)) ∗ ownToks (F := F) c) : sProp 𝕄)
      ⊢ bigSep Finset.univ (G' m) := by
  rw [bigSep_sep', bigSep_sep', ← bigSep_univ_prod (fun x : Dev nD × Fin 64 => iprop(∃ κ : ℕ, cellInv ER (sched m) κ (kcell x))),
    bigSep_congr (s := Finset.univ) (fun (c : Dev nD) _ => bigSep_sep' Finset.univ (fun j : Fin 64 => (atPos ER (kcell (c, j)) 0 ∅ 0 : sProp 𝕄)) (fun j => reached ER (kcell (c, j)) 0)),
    bigSep_sep', ← bigSep_univ_prod (fun x : Dev nD × Fin 64 => (reached ER (kcell x) 0 : sProp 𝕄)), toks_around,
    bigSep_congr (s := Finset.univ) (fun (c : Dev nD) _ => positions_eq (F := F) c)]
  iintro ⟨HI, ⟨Hat, #HR⟩, Htok⟩
  ihave HK := (BI.bigSep_exists_pi Finset.univ (fun (x : Dev nD × Fin 64) (κ : ℕ) => (cellInv ER (sched m) κ (kcell x) : sProp 𝕄))) $$ HI
  icases HK with ⟨%K, #HI⟩
  iapply (share_known (F := F) (R := records m K) (Φ := linear (F := F)) fun c => show iprop(records m K ∗ linear (F := F) c) ⊢ G' m c by
    unfold G'; iintro H; iexists K; iexact H)
  isplitr
  · unfold records; isplitl; · iexact HI
    iexact HR
  · iapply (Entails.of_eq (bigSep_sep' Finset.univ (fun c : Dev nD => positions (F := F) c) (fun c => payToks (F := F) c)).symm)
    isplitl [Hat]; · iexact Hat
    iexact Htok

theorem all_dealt :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => cells_made m c).trans (bigSep_fupd _ _)).trans (BI.fupd_mono (deal m))

end Cert.Mlp

end
-- ==== Proof.Ops.lean ====
/-
What the body's parts are stated with: the kernel's buffers in their places, the partner that each
device computation names, and the results of a part's arithmetic in the terms of `Contents`.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A part of the body, at the kernel's own buffers and semaphores. -/
abbrev onBuffers {R : Type 1}
    (f : ∀ (arg0 : Memref sig .tc .vmem S64x1024 .f32), ∀ (harg0 : arg0.IsWhole), ∀ (arg1 : Memref sig .tc .hbm S1024x2048 .f32), ∀ (harg1 : arg1.IsWhole), ∀ (arg2 : Memref sig .tc .hbm S2048x1024 .f32), ∀ (harg2 : arg2.IsWhole), ∀ (arg3 : Memref sig .tc .hbm S1024x2048 .f32), ∀ (harg3 : arg3.IsWhole), ∀ (arg4 : Memref sig .tc .hbm S2048x1024 .f32), ∀ (harg4 : arg4.IsWhole), ∀ (arg5 : Memref sig .tc .hbm S1024x2048 .f32), ∀ (harg5 : arg5.IsWhole), ∀ (arg6 : Memref sig .tc .hbm S2048x1024 .f32), ∀ (harg6 : arg6.IsWhole), ∀ (arg7 : Memref sig .tc .vmem S64x1024 .f32), ∀ (harg7 : arg7.IsWhole), ∀ (arg8 : Memref sig .tc .vmem S1024x2048 .f32), ∀ (harg8 : arg8.IsWhole), ∀ (arg9 : Memref sig .tc .vmem S2048x1024 .f32), ∀ (harg9 : arg9.IsWhole), ∀ (arg10 : Memref sig .tc .vmem S1024x2048 .bf16), ∀ (harg10 : arg10.IsWhole), ∀ (arg11 : Memref sig .tc .vmem S2048x1024 .bf16), ∀ (harg11 : arg11.IsWhole), ∀ (arg12 : DmaSems sig S2), ∀ (arg13 : Memref sig .tc .vmem S2x64x1024 .bf16), ∀ (harg13 : arg13.IsWhole), ∀ (arg14 : Memref sig .tc .vmem S15x64x1024 .bf16), ∀ (harg14 : arg14.IsWhole), ∀ (arg15 : Memref sig .tc .vmem S15x64x1024 .bf16), ∀ (harg15 : arg15.IsWhole), ∀ (arg16 : DmaSems sig S15), ∀ (arg17 : DmaSems sig S15), ∀ (arg18 : DmaSems sig S15), ∀ (arg19 : DmaSems sig S15), ∀ (v1114_r0 : Sems sig S_), R) : R :=
  f (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scoped0

/-! ## Whom a device signals, and to whom it sends -/

theorem dev1 (c : Dev nD) : (⟨k0_dev1 c, k0_dev1_lt c⟩ : Dev nD) = px 0 c := by revert c; decide +kernel
theorem dev2 (c : Dev nD) : (⟨k0_dev2 c, k0_dev2_lt c⟩ : Dev nD) = px 1 c := by revert c; decide +kernel
theorem dev3 (c : Dev nD) : (⟨k0_dev3 c, k0_dev3_lt c⟩ : Dev nD) = px 2 c := by revert c; decide +kernel
theorem dev4 (c : Dev nD) : (⟨k0_dev4 c, k0_dev4_lt c⟩ : Dev nD) = px 3 c := by revert c; decide +kernel
theorem dev5 (c : Dev nD) : (⟨k0_dev5 c, k0_dev5_lt c⟩ : Dev nD) = px 4 c := by revert c; decide +kernel
theorem dev6 (c : Dev nD) : (⟨k0_dev6 c, k0_dev6_lt c⟩ : Dev nD) = pa 0 c := by revert c; decide +kernel
theorem dev7 (c : Dev nD) : (⟨k0_dev7 c, k0_dev7_lt c⟩ : Dev nD) = pa 1 c := by revert c; decide +kernel
theorem dev8 (c : Dev nD) : (⟨k0_dev8 c, k0_dev8_lt c⟩ : Dev nD) = pa 2 c := by revert c; decide +kernel
theorem dev9 (c : Dev nD) : (⟨k0_dev9 c, k0_dev9_lt c⟩ : Dev nD) = pa 3 c := by revert c; decide +kernel
theorem dev10 (c : Dev nD) : (⟨k0_dev10 c, k0_dev10_lt c⟩ : Dev nD) = pa 4 c := by revert c; decide +kernel
theorem dev11 (c : Dev nD) : (⟨k0_dev11 c, k0_dev11_lt c⟩ : Dev nD) = pa 5 c := by revert c; decide +kernel
theorem dev12 (c : Dev nD) : (⟨k0_dev12 c, k0_dev12_lt c⟩ : Dev nD) = pa 6 c := by revert c; decide +kernel
theorem dev13 (c : Dev nD) : (⟨k0_dev13 c, k0_dev13_lt c⟩ : Dev nD) = pa 7 c := by revert c; decide +kernel
theorem dev14 (c : Dev nD) : (⟨k0_dev14 c, k0_dev14_lt c⟩ : Dev nD) = pa 8 c := by revert c; decide +kernel
theorem dev15 (c : Dev nD) : (⟨k0_dev15 c, k0_dev15_lt c⟩ : Dev nD) = pa 9 c := by revert c; decide +kernel
theorem dev16 (c : Dev nD) : (⟨k0_dev16 c, k0_dev16_lt c⟩ : Dev nD) = pa 10 c := by revert c; decide +kernel
theorem dev17 (c : Dev nD) : (⟨k0_dev17 c, k0_dev17_lt c⟩ : Dev nD) = pa 11 c := by revert c; decide +kernel
theorem dev18 (c : Dev nD) : (⟨k0_dev18 c, k0_dev18_lt c⟩ : Dev nD) = pa 12 c := by revert c; decide +kernel
theorem dev19 (c : Dev nD) : (⟨k0_dev19 c, k0_dev19_lt c⟩ : Dev nD) = pa 13 c := by revert c; decide +kernel
theorem dev20 (c : Dev nD) : (⟨k0_dev20 c, k0_dev20_lt c⟩ : Dev nD) = pa 14 c := by revert c; decide +kernel
theorem dev21 (c : Dev nD) : (⟨k0_dev21 c, k0_dev21_lt c⟩ : Dev nD) = pa 15 c := by revert c; decide +kernel
theorem dev22 (c : Dev nD) : (⟨k0_dev22 c, k0_dev22_lt c⟩ : Dev nD) = pa 16 c := by revert c; decide +kernel
theorem dev23 (c : Dev nD) : (⟨k0_dev23 c, k0_dev23_lt c⟩ : Dev nD) = pa 17 c := by revert c; decide +kernel
theorem dev24 (c : Dev nD) : (⟨k0_dev24 c, k0_dev24_lt c⟩ : Dev nD) = pa 18 c := by revert c; decide +kernel
theorem dev25 (c : Dev nD) : (⟨k0_dev25 c, k0_dev25_lt c⟩ : Dev nD) = pa 19 c := by revert c; decide +kernel
theorem dev26 (c : Dev nD) : (⟨k0_dev26 c, k0_dev26_lt c⟩ : Dev nD) = pa 20 c := by revert c; decide +kernel
theorem dev27 (c : Dev nD) : (⟨k0_dev27 c, k0_dev27_lt c⟩ : Dev nD) = pa 21 c := by revert c; decide +kernel
theorem dev28 (c : Dev nD) : (⟨k0_dev28 c, k0_dev28_lt c⟩ : Dev nD) = pa 22 c := by revert c; decide +kernel
theorem dev29 (c : Dev nD) : (⟨k0_dev29 c, k0_dev29_lt c⟩ : Dev nD) = pa 23 c := by revert c; decide +kernel
theorem dev30 (c : Dev nD) : (⟨k0_dev30 c, k0_dev30_lt c⟩ : Dev nD) = pa 24 c := by revert c; decide +kernel
theorem dev31 (c : Dev nD) : (⟨k0_dev31 c, k0_dev31_lt c⟩ : Dev nD) = pa 25 c := by revert c; decide +kernel
theorem dev32 (c : Dev nD) : (⟨k0_dev32 c, k0_dev32_lt c⟩ : Dev nD) = pa 26 c := by revert c; decide +kernel
theorem dev33 (c : Dev nD) : (⟨k0_dev33 c, k0_dev33_lt c⟩ : Dev nD) = pa 27 c := by revert c; decide +kernel
theorem dev34 (c : Dev nD) : (⟨k0_dev34 c, k0_dev34_lt c⟩ : Dev nD) = pa 28 c := by revert c; decide +kernel
theorem dev35 (c : Dev nD) : (⟨k0_dev35 c, k0_dev35_lt c⟩ : Dev nD) = pa 29 c := by revert c; decide +kernel
theorem dev36 (c : Dev nD) : (⟨k0_dev36 c, k0_dev36_lt c⟩ : Dev nD) = px 0 c := by revert c; decide +kernel
theorem dev37 (c : Dev nD) : (⟨k0_dev37 c, k0_dev37_lt c⟩ : Dev nD) = px 1 c := by revert c; decide +kernel
theorem dev38 (c : Dev nD) : (⟨k0_dev38 c, k0_dev38_lt c⟩ : Dev nD) = px 2 c := by revert c; decide +kernel
theorem dev39 (c : Dev nD) : (⟨k0_dev39 c, k0_dev39_lt c⟩ : Dev nD) = px 3 c := by revert c; decide +kernel
theorem dev40 (c : Dev nD) : (⟨k0_dev40 c, k0_dev40_lt c⟩ : Dev nD) = px 4 c := by revert c; decide +kernel

/-! ## Arithmetic -/

/-- The first half's share of layer `l`'s result. -/
def outA (l : ℕ) (c : Dev nD) : FVec F S64x1024 .f32 := mm (actv (accAt m 0 l 5 c)) (rows 0 (woutB m l c))

/-- What a copy of a layer's weights brings. -/
theorem srcAt_win (l : ℕ) (c : Dev nD) : srcAt m winM l c = winAt m l c := rfl
theorem srcAt_wout (l : ℕ) (c : Dev nD) : srcAt m woutM l c = woutAt m l c := rfl

/-- `accAt_succ`, its side conditions in one. -/
theorem join_eq (c : Dev nD) {i h l s t : ℕ} (hi : i = 2 * (5 * l + s) + h ∧ h < 2 ∧ s < 5 ∧ t = s + 1) :
    joined (accAt m h l s c) (sentAt m i (pa i c)) = accAt m h l t c := by
  obtain ⟨h1, h2, h3, rfl⟩ := hi
  exact accAt_succ m i h l s h1 h2 h3 c

end Cert.Mlp

end
-- ==== Proof.Layer0.lean ====
/-
The entry barrier and the first layer of the body, part by part as printed: what a part finds in the buffers it touches, what it leaves there,
and the blocks it hands to the parts after it. A word that a part returns is never read again, so nothing is said of it.
-/
module

public import proofs.«01_k».proof.Proof.Ops

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part1 {α : Type} (K : Dev nD × Fin 64 → ℕ) (c : Dev nD)
    {k : (Σ' (d0 : Dev nD) (v2 : BitVec 32), Sems sig S_) → Prog (TpuEff nD τ sig (Elt F) Λ₀ .tc) α} {Q : α → sProp 𝕄} :
    iprop(Env m K ∗ Idle m cpiD winM 0 c ∗ anyAt (F := F) wiM c ∗ Idle m cpoD woutM 0 c ∗ anyAt (F := F) woM c ∗ Owe (F := F) c 0 0 0 ∗ anyAt (F := F) wibM c ∗ Knock (F := F) c 0)
      ⊢ iprop((∀ v2 : BitVec 32, (Idle m cpiD winM 1 c ∗ owns (c : Thread nD τ) wiM fullShare (winAt m 0 c) ∗ Busy m cpoD woutM woM 0 c ∗ Owe (F := F) c 3 0 0 ∗ owns (c : Thread nD τ) wibM fullShare (winB m 0 c) ∗ Knock (F := F) c 3) -∗ wpc c (k ⟨c, v2, SemArray.scalar (sig.barrier 0 rfl)⟩) Q)
        -∗ wpc c (onBuffers (k0_part1 (F := F)) >>= k) Q) := by
  unfold onBuffers
  rw [k0_part1_eq_skeleton]; unfold k0_part1_skel
  simp only [semSignalWord, semWaitWord, Prog.lift, Prog.bind_op, Prog.bind_ret, Prog.pure_eq_ret, Prog.bind_assoc, wp_deviceId]
  iintro ⟨#Henv, HCI, Hwi, HCO, Hwo, HO, Hwib, HK⟩ Hk
  iapply (wp_copy_start m (q := cpiD) (src := winM) (dst := wiM) K c 0 (by decide) (by decide) (fun _ h => duties_cpi m c h) (fun r => amount_cpi m c r 0) (fun r => payload_cpi m c r 0) rfl rfl) $$ [HCI Hwi]
  · isplitr; · iexact Henv
    isplitl [HCI]; · iexact HCI
    iexact Hwi
  iintro HCI
  iapply (wp_copy_start m (q := cpoD) (src := woutM) (dst := woM) K c 0 (by decide) (by decide) (fun _ h => duties_cpo m c h) (fun r => amount_cpo m c r 0) (fun r => payload_cpo m c r 0) rfl rfl) $$ [HCO Hwo]
  · isplitr; · iexact Henv
    isplitl [HCO]; · iexact HCO
    iexact Hwo
  iintro HCO
  iapply (wp_copy_wait m (q := cpiD) (src := winM) (dst := wiM) K c 0 (by decide) (by decide) (by decide) 0 0 0 (fun _ h => expect_cpi m c h) (fun _ h => rest_cpi m c h) rfl) $$ [HO HCI]
  · isplitr; · iexact Henv
    isplitl [HO]; · iexact HO
    iexact HCI
  rw [srcAt_win]
  iintro ⟨HO, HCI, Hwi⟩
  iapply (wp_load_all c 2 rfl (X := winAt m 0 c) off_zero) $$ Hwi
  iintro Hwi
  iapply (wp_load_dead c wibM _) $$ Hwib
  iintro %v11 Hwib
  have e1 : k0_pay1 (winAt m 0 c) = winB m 0 c := rfl
  iapply (wp_store_all c 4 rfl off_zero e1) $$ Hwib
  iintro Hwib
  iapply (wp_signal_bar m K c 0 (by decide) (dev1 c) rfl rfl) $$ [HO HK]
  · isplitr; · iexact Henv
    isplitl [HO]; · iexact HO
    iexact HK
  iintro ⟨HO, HK⟩
  iapply (wp_signal_bar m K c 1 (by decide) (dev2 c) rfl rfl) $$ [HO HK]
  · isplitr; · iexact Henv
    isplitl [HO]; · iexact HO
    iexact HK
  iintro ⟨HO, HK⟩
  iapply (wp_signal_bar m K c 2 (by decide) (dev3 c) rfl rfl) $$ [HO HK]
  · isplitr; · iexact Henv
    isplitl [HO]; · iexact HO
    iexact HK
  iintro ⟨HO, HK⟩
  iapply Hk
  isplitl [HCI]; · iexact HCI
  isplitl [Hwi]; · iexact Hwi
  isplitl [HCO]; · iexact HCO
  isplitl [HO]; · iexact HO
  isplitl [Hwib]; · iexact Hwib
  iexact HK

theorem part2 {α : Type} (K : Dev nD × Fin 64 → ℕ) (c : Dev nD) (v2 : BitVec 32)
    {k : (Σ' (v34 : FVec F S64x1024 .f32) (v39 : BitVec 32) (v40 : BitVec 32), FVec F S64x1024 .f32) → Prog (TpuEff nD τ sig (Elt F) Λ₀ .tc) α} {Q : α → sProp 𝕄} :
    iprop(Env m K ∗ Owe (F := F) c 3 0 0 ∗ Knock (F := F) c 3 ∗ AtBar (F := F) c ∗ bigSep (Finset.Ico 0 30) (fun i => Ready (F := F) i c) ∗ owns (c : Thread nD τ) xM fullShare (xstg m c) ∗ owns (c : Thread nD τ) wibM fullShare (winB m 0 c) ∗ sendAny (F := F) 0 c)
      ⊢ iprop((∀ v39 : BitVec 32, ∀ v40 : BitVec 32, (Owe (F := F) c 5 1 0 ∗ Knock (F := F) c 5 ∗ semVal (barC c) 0 ∗ Todo (F := F) c 1 ∗ owns (c : Thread nD τ) xM fullShare (xstg m c) ∗ owns (c : Thread nD τ) wibM fullShare (winB m 0 c) ∗ Flight (F := F) 0 c) -∗ wpc c (k ⟨accAt m 0 0 0 c, v39, v40, accAt m 1 0 0 c⟩) Q)
        -∗ wpc c (onBuffers (k0_part2 (F := F)) c v2 (SemArray.scalar (sig.barrier 0 rfl)) >>= k) Q) := by
  unfold onBuffers
  rw [k0_part2_eq_skeleton]; unfold k0_part2_skel
  simp only [semSignalWord, semWaitWord, Prog.lift, Prog.bind_op, Prog.bind_ret, Prog.pure_eq_ret, Prog.bind_assoc, wp_deviceId]
  iintro ⟨#Henv, HO, HK, HB, HR, Hx, Hwib, HSA⟩ Hk
  iapply (wp_signal_bar m K c 3 (by decide) (dev4 c) rfl rfl) $$ [HO HK]
  · isplitr; · iexact Henv
    isplitl [HO]; · iexact HO
    iexact HK
  iintro ⟨HO, HK⟩
  iapply (wp_signal_bar m K c 4 (by decide) (dev5 c) rfl rfl) $$ [HO HK]
  · isplitr; · iexact Henv
    isplitl [HO]; · iexact HO
    iexact HK
  iintro ⟨HO, HK⟩
  iapply (wp_wait_bar m K c rfl rfl) $$ [HO HB HR]
  · isplitr; · iexact Henv
    isplitl [HO]; · iexact HO
    isplitl [HB]; · iexact HB
    iexact HR
  iintro ⟨HO, HB, HT⟩
  iapply (wp_load_all c 0 rfl (X := xstg m c) off_zero) $$ Hx
  iintro Hx
  iapply (wp_load_cols c 0) $$ Hwib
  iintro Hwib
  iapply (wp_load_send c 0) $$ HSA
  iintro %v36 HSA
  have e1 : k0_pay4 (xstg m c) (cols 0 (winB m 0 c)) = sentAt m 0 c := rfl
  iapply (wp_store_send m c 0 e1) $$ HSA
  iintro HSA
  iapply (wp_send_exchange m K c 0 (by decide) 0 (dev6 c) rfl rfl rfl rfl) $$ [HO HT HSA]
  · isplitr; · iexact Henv
    isplitl [HO]; · iexact HO
    isplitl [HT]; · iexact HT
    iexact HSA
  iintro ⟨HO, HT, HXA⟩
  iapply (wp_load_cols c 1) $$ Hwib
  iintro Hwib
  have e2 : k0_pay3 (xstg m c) (cols 0 (winB m 0 c)) = accAt m 0 0 0 c := rfl
  have e3 : k0_pay5 (xstg m c) (cols 1 (winB m 0 c)) = accAt m 1 0 0 c := rfl
  rw [e2, e3]
  iapply Hk
  isplitl [HO]; · iexact HO
  isplitl [HK]; · iexact HK
  isplitl [HB]; · iexact HB
  isplitl [HT]; · iexact HT
  isplitl [Hx]; · iexact Hx
  isplitl [Hwib]; · iexact Hwib
  iexact HXA

theorem part3 {α : Type} (K : Dev nD × Fin 64 → ℕ) (c : Dev nD) (v40 : BitVec 32)
    {k : (PUnit) → Prog (TpuEff nD τ sig (Elt F) Λ₀ .tc) α} {Q : α → sProp 𝕄} :
    iprop(Env m K ∗ sendAny (F := F) 1 c ∗ Owe (F := F) c 5 1 0 ∗ Todo (F := F) c 1 ∗ Busy m cpoD woutM woM 0 c ∗ anyAt (F := F) wobM c ∗ Flight (F := F) 0 c)
      ⊢ iprop(((Owe (F := F) c 5 2 0 ∗ Todo (F := F) c 2 ∗ Flight (F := F) 1 c ∗ Idle m cpoD woutM 1 c ∗ owns (c : Thread nD τ) woM fullShare (woutAt m 0 c) ∗ owns (c : Thread nD τ) wobM fullShare (woutB m 0 c) ∗ Away (F := F) 0 c ∗ sendAny (F := F) 2 c) -∗ wpc c (k ⟨⟩) Q)
        -∗ wpc c (onBuffers (k0_part3 (F := F)) c v40 (accAt m 1 0 0 c) >>= k) Q) := by
  unfold onBuffers
  rw [k0_part3_eq_skeleton]; unfold k0_part3_skel
  simp only [semSignalWord, semWaitWord, Prog.lift, Prog.bind_op, Prog.bind_ret, Prog.pure_eq_ret, Prog.bind_assoc, wp_deviceId]
  iintro ⟨#Henv, HSB, HO, HT, HCO, Hwob, HXA⟩ Hk
  iapply (wp_load_send c 1) $$ HSB
  iintro %v54 HSB
  have e1 : k0_pay6 (accAt m 1 0 0 c) = sentAt m 1 c := rfl
  iapply (wp_store_send m c 1 e1) $$ HSB
  iintro HSB
  iapply (wp_send_exchange m K c 1 (by decide) 0 (dev7 c) rfl rfl rfl rfl) $$ [HO HT HSB]
  · isplitr; · iexact Henv
    isplitl [HO]; · iexact HO
    isplitl [HT]; · iexact HT
    iexact HSB
  iintro ⟨HO, HT, HXB⟩
  iapply (wp_copy_wait m (q := cpoD) (src := woutM) (dst := woM) K c 0 (by decide) (by decide) (by decide) 5 2 0 (fun _ h => expect_cpo m c h) (fun _ h => rest_cpo m c h) rfl) $$ [HO HCO]
  · isplitr; · iexact Henv
    isplitl [HO]; · iexact HO
    iexact HCO
  rw [srcAt_wout]
  iintro ⟨HO, HCO, Hwo⟩
  iapply (wp_load_all c 3 rfl (X := woutAt m 0 c) off_zero) $$ Hwo
  iintro Hwo
  iapply (wp_load_dead c wobM _) $$ Hwob
  iintro %v71 Hwob
  have e2 : k0_pay7 (woutAt m 0 c) = woutB m 0 c := rfl
  iapply (wp_store_all c 5 rfl off_zero e2) $$ Hwob
  iintro Hwob
  iapply (wp_wait_snd m K c 0 (by decide) 2 rfl rfl) $$ [HO HXA]
  · isplitr; · iexact Henv
    isplitl [HO]; · iexact HO
    iexact HXA
  iintro ⟨HO, HXA, HSA⟩
  iapply Hk
  isplitl [HO]; · iexact HO
  isplitl [HT]; · iexact HT
  isplitl [HXB]; · iexact HXB
  isplitl [HCO]; · iexact HCO
  isplitl [Hwo]; · iexact Hwo
  isplitl [Hwob]; · iexact Hwob
  isplitl [HXA]; · iexact HXA
  iexact HSA

theorem part4 {α : Type} (K : Dev nD × Fin 64 → ℕ) (c : Dev nD) (v39 : BitVec 32) (v40 : BitVec 32)
    {k : (FVec F S64x1024 .f32) → Prog (TpuEff nD τ sig (Elt F) Λ₀ .tc) α} {Q : α → sProp 𝕄} :
    iprop(Env m K ∗ Owe (F := F) c 5 2 0 ∗ Away (F := F) 0 c ∗ Done (F := F) c 0 ∗ Flight (F := F) 1 c)
      ⊢ iprop(((Owe (F := F) c 5 2 0 ∗ Done (F := F) c 1 ∗ Got m 1 c ∗ sendAny (F := F) 3 c) -∗ wpc c (k (accAt m 0 0 1 c)) Q)
        -∗ wpc c (onBuffers (k0_part4 (F := F)) (accAt m 0 0 0 c) v39 v40 >>= k) Q) := by
  unfold onBuffers
  rw [k0_part4_eq_skeleton]; unfold k0_part4_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_rcv m K c 0 (by decide) 2 (by decide) rfl rfl) $$ [HO HXA]
  · isplitr; · iexact Henv
    isplitl [HO]; · iexact HO
    iexact HXA
  iintro ⟨HO, HXA⟩
  iapply (wp_load_slot m c 0) $$ [HD HXA]
  · isplitl [HD]; · iexact HD
    iexact HXA
  iintro HD
  iapply (wp_wait_snd m K c 1 (by decide) 2 rfl rfl) $$ [HO HXB]
  · isplitr; · iexact Henv
    isplitl [HO]; · iexact HO
    iexact HXB
  iintro ⟨HO, HXB, HSB⟩
  iapply (wp_wait_rcv m K c 1 (by decide) 2 (by decide) rfl rfl) $$ [HO HXB]
  · isplitr; · iexact Henv
    isplitl [HO]; · iexact HO
    iexact HXB
  iintro ⟨HO, HXB⟩
  have e1 : k0_pay8 (accAt m 0 0 0 c) (sentAt m 0 (pa 0 c)) = accAt m 0 0 1 c := by
    show joined (accAt m 0 0 0 c) (sentAt m 0 (pa 0 c)) = _
    rw [join_eq m c (i := 0) (h := 0) (l := 0) (s := 0) (t := 1) (by decide)]; try rfl
  rw [e1]
  iapply Hk
  isplitl [HO]; · iexact HO
  isplitl [HD]; · iexact HD
  isplitl [HXB]; · iexact HXB
  iexact HSB

theorem part5 {α : Type} (K : Dev nD × Fin 64 → ℕ) (c : Dev nD) (v2 : BitVec 32)
    {k : (Σ' (v109 : FVec F S64x1024 .f32) (v118 : BitVec 32), BitVec 32) → Prog (TpuEff nD τ sig (Elt F) Λ₀ .tc) α} {Q : α → sProp 𝕄} :
    iprop(Env m K ∗ Done (F := F) c 1 ∗ Got m 1 c ∗ sendAny (F := F) 2 c ∗ sendAny (F := F) 3 c ∗ Owe (F := F) c 5 2 0 ∗ Todo (F := F) c 2)
      ⊢ iprop((∀ v118 : BitVec 32, ∀ v119 : BitVec 32, (Done (F := F) c 2 ∗ sendHas 3 (sentAt m 3 c) c ∗ Owe (F := F) c 5 3 0 ∗ Todo (F := F) c 3 ∗ Flight (F := F) 2 c) -∗ wpc c (k ⟨accAt m 1 0 1 c, v118, v119⟩) Q)
        -∗ wpc c (onBuffers (k0_part5 (F := F)) c v2 (accAt m 1 0 0 c) (accAt m 0 0 1 c) >>= k) Q) := by
  unfold onBuffers
  rw [k0_part5_eq_skeleton]; unfold k0_part5_skel
  simp only [semSignalWord, semWaitWord, Prog.lift, Prog.bind_op, Prog.bind_ret, Prog.pure_eq_ret, Prog.bind_assoc, wp_deviceId]
  iintro ⟨#Henv, HD, HXB, HSA, HSB, HO, HT⟩ Hk
  iapply (wp_load_slot m c 1) $$ [HD HXB]
  · isplitl [HD]; · iexact HD
    iexact HXB
  iintro HD
  iapply (wp_load_send c 2) $$ HSA
  iintro %v111 HSA
  have e1 : k0_pay10 (accAt m 0 0 1 c) = sentAt m 2 c := rfl
  iapply (wp_store_send m c 2 e1) $$ HSA
  iintro HSA
  iapply (wp_load_send c 3) $$ HSB
  iintro %v115 HSB
  have e2 : k0_pay11 (accAt m 1 0 0 c) (sentAt m 1 (pa 1 c)) = sentAt m 3 c := by
    show sent (joined (accAt m 1 0 0 c) (sentAt m 1 (pa 1 c))) = _
    rw [join_eq m c (i := 1) (h := 1) (l := 0) (s := 0) (t := 1) (by decide)]; try rfl
  iapply (wp_store_send m c 3 e2) $$ HSB
  iintro HSB
  iapply (wp_send_exchange m K c 2 (by decide) 0 (dev8 c) rfl rfl rfl rfl) $$ [HO HT HSA]
  · isplitr; · iexact Henv
    isplitl [HO]; · iexact HO
    isplitl [HT]; · iexact HT
    iexact HSA
  iintro ⟨HO, HT, HXA⟩
  have e3 : k0_pay9 (accAt m 1 0 0 c) (sentAt m 1 (pa 1 c)) = accAt m 1 0 1 c := by
    show joined (accAt m 1 0 0 c) (sentAt m 1 (pa 1 c)) = _
    rw [join_eq m c (i := 1) (h := 1) (l := 0) (s := 0) (t := 1) (by decide)]; try rfl
  rw [e3]
  iapply Hk
  isplitl [HD]; · iexact HD
  isplitl [HSB]; · iexact HSB
  isplitl [HO]; · iexact HO
  isplitl [HT]; · iexact HT
  iexact HXA

theorem part6 {α : Type} (K : Dev nD × Fin 64 → ℕ) (c : Dev nD) (v118 : BitVec 32)
    {k : (FVec F S64x1024 .f32) → Prog (TpuEff nD τ sig (Elt F) Λ₀ .tc) α} {Q : α → sProp 𝕄} :
    iprop(Env m K ∗ Owe (F := F) c 5 3 0 ∗ Todo (F := F) c 3 ∗ sendHas 3 (sentAt m 3 c) c ∗ owns (c : Thread nD τ) wiM fullShare (winAt m 0 c) ∗ Idle m cpiD winM 1 c ∗ Flight (F := F) 2 c ∗ Done (F := F) c 2)
      ⊢ iprop(((Owe (F := F) c 5 4 0 ∗ Todo (F := F) c 4 ∗ Flight (F := F) 3 c ∗ Busy m cpiD winM wiM 1 c ∗ sendAny (F := F) 4 c ∗ Done (F := F) c 3) -∗ wpc c (k (accAt m 0 0 2 c)) Q)
        -∗ wpc c (onBuffers (k0_part6 (F := F)) c (accAt m 0 0 1 c) v118 >>= k) Q) := by
  unfold onBuffers
  rw [k0_part6_eq_skeleton]; unfold k0_part6_skel
  simp only [semSignalWord, semWaitWord, Prog.lift, Prog.bind_op, Prog.bind_ret, Prog.pure_eq_ret, Prog.bind_assoc, wp_deviceId]
  iintro ⟨#Henv, HO, HT, HSB, Hwi, HCI, HXA, HD⟩ Hk
  iapply (wp_send_exchange m K c 3 (by decide) 0 (dev9 c) rfl rfl rfl rfl) $$ [HO HT HSB]
  · isplitr; · iexact Henv
    isplitl [HO]; · iexact HO
    isplitl [HT]; · iexact HT
    iexact HSB
  iintro ⟨HO, HT, HXB⟩
  ihave Hwi := (owns_any c wiM _) $$ Hwi
  iapply (wp_copy_start m (q := cpiD) (src := winM) (dst := wiM) K c 1 (by decide) (by decide) (fun _ h => duties_cpi m c h) (fun r => amount_cpi m c r 0) (fun r => payload_cpi m c r 0) rfl rfl) $$ [HCI Hwi]
  · isplitr; · iexact Henv
    isplitl [HCI]; · iexact HCI
    iexact Hwi
  iintro HCI
  iapply (wp_wait_snd m K c 2 (by decide) 4 rfl rfl) $$ [HO HXA]
  · isplitr; · iexact Henv
    isplitl [HO]; · iexact HO
    iexact HXA
  iintro ⟨HO, HXA, HSA⟩
  iapply (wp_wait_rcv m K c 2 (by decide) 4 (by decide) rfl rfl) $$ [HO HXA]
  · isplitr; · iexact Henv
    isplitl [HO]; · iexact HO
    iexact HXA
  iintro ⟨HO, HXA⟩
  iapply (wp_load_slot m c 2) $$ [HD HXA]
  · isplitl [HD]; · iexact HD
    iexact HXA
  iintro HD
  have e1 : k0_pay12 (accAt m 0 0 1 c) (sentAt m 2 (pa 2 c)) = accAt m 0 0 2 c := by
    show joined (accAt m 0 0 1 c) (sentAt m 2 (pa 2 c)) = _
    rw [join_eq m c (i := 2) (h := 0) (l := 0) (s := 1) (t := 2) (by decide)]; try rfl
  rw [e1]
  iapply Hk
  isplitl [HO]; · iexact HO
  isplitl [HT]; · iexact HT
  isplitl [HXB]; · iexact HXB
  isplitl [HCI]; · iexact HCI
  isplitl [HSA]; · iexact HSA
  iexact HD

theorem part7 {α : Type} (K : Dev nD × Fin 64 → ℕ) (c : Dev nD) (v2 : BitVec 32) (v119 : BitVec 32)
    {k : (Σ' (v177 : FVec F S64x1024 .f32) (v186 : BitVec 32), BitVec 32) → Prog (TpuEff nD τ sig (Elt F) Λ₀ .tc) α} {Q : α → sProp 𝕄} :
    iprop(Env m K ∗ Owe (F := F) c 5 4 0 ∗ Flight (F := F) 3 c ∗ Done (F := F) c 3 ∗ sendAny (F := F) 4 c)
      ⊢ iprop((∀ v186 : BitVec 32, ∀ v187 : BitVec 32, (Owe (F := F) c 5 4 0 ∗ sendHas 5 (sentAt m 5 c) c ∗ Done (F := F) c 4 ∗ sendHas 4 (sentAt m 4 c) c) -∗ wpc c (k ⟨accAt m 1 0 2 c, v186, v187⟩) Q)
        -∗ wpc c (onBuffers (k0_part7 (F := F)) v2 (accAt m 1 0 1 c) v119 (accAt m 0 0 2 c) >>= k) Q) := by
  unfold onBuffers
  rw [k0_part7_eq_skeleton]; unfold k0_part7_skel
  simp only [semSignalWord, semWaitWord, Prog.lift, Prog.bind_op, Prog.bind_ret, Prog.pure_eq_ret, Prog.bind_assoc, wp_deviceId]
  iintro ⟨#Henv, HO, HXB, HD, HSA⟩ Hk
  iapply (wp_wait_snd m K c 3 (by decide) 4 rfl rfl) $$ [HO HXB]
  · isplitr; · iexact Henv
    isplitl [HO]; · iexact HO
    iexact HXB
  iintro ⟨HO, HXB, HSB⟩
  iapply (wp_wait_rcv m K c 3 (by decide) 4 (by decide) rfl rfl) $$ [HO HXB]
  · isplitr; · iexact Henv
    isplitl [HO]; · iexact HO
    iexact HXB
  iintro ⟨HO, HXB⟩
  iapply (wp_load_slot m c 3) $$ [HD HXB]
  · isplitl [HD]; · iexact HD
    iexact HXB
  iintro HD
  iapply (wp_load_send c 4) $$ HSA
  iintro %v179 HSA
  have e1 : k0_pay14 (accAt m 0 0 2 c) = sentAt m 4 c := rfl
  iapply (wp_store_send m c 4 e1) $$ HSA
  iintro HSA
  iapply (wp_load_send c 5) $$ HSB
  iintro %v183 HSB
  have e2 : k0_pay15 (accAt m 1 0 1 c) (sentAt m 3 (pa 3 c)) = sentAt m 5 c := by
    show sent (joined (accAt m 1 0 1 c) (sentAt m 3 (pa 3 c))) = _
    rw [join_eq m c (i := 3) (h := 1) (l := 0) (s := 1) (t := 2) (by decide)]; try rfl
  iapply (wp_store_send m c 5 e2) $$ HSB
  iintro HSB
  have e3 : k0_pay13 (accAt m 1 0 1 c) (sentAt m 3 (pa 3 c)) = accAt m 1 0 2 c := by
    show joined (accAt m 1 0 1 c) (sentAt m 3 (pa 3 c)) = _
    rw [join_eq m c (i := 3) (h := 1) (l := 0) (s := 1) (t := 2) (by decide)]; try rfl
  rw [e3]
  iapply Hk
  isplitl [HO]; · iexact HO
  isplitl [HSB]; · iexact HSB
  isplitl [HD]; · iexact HD
  iexact HSA

theorem part8 {α : Type} (K : Dev nD × Fin 64 → ℕ) (c : Dev nD) (v186 : BitVec 32) (v187 : BitVec 32)
    {k : (PUnit) → Prog (TpuEff nD τ sig (Elt F) Λ₀ .tc) α} {Q : α → sProp 𝕄} :
    iprop(Env m K ∗ Owe (F := F) c 5 4 0 ∗ Todo (F := F) c 4 ∗ sendHas 4 (sentAt m 4 c) c ∗ sendHas 5 (sentAt m 5 c) c ∗ Busy m cpiD winM wiM 1 c ∗ owns (c : Thread nD τ) wibM fullShare (winB m 0 c))
      ⊢ iprop(((Owe (F := F) c 5 6 0 ∗ Todo (F := F) c 6 ∗ Flight (F := F) 4 c ∗ Flight (F := F) 5 c ∗ Idle m cpiD winM 2 c ∗ owns (c : Thread nD τ) wiM fullShare (winAt m 1 c) ∗ owns (c : Thread nD τ) wibM fullShare (winB m 1 c)) -∗ wpc c (k ⟨⟩) Q)
        -∗ wpc c (onBuffers (k0_part8 (F := F)) c v186 v187 >>= k) Q) := by
  unfold onBuffers
  rw [k0_part8_eq_skeleton]; unfold k0_part8_skel
  simp only [semSignalWord, semWaitWord, Prog.lift, Prog.bind_op, Prog.bind_ret, Prog.pure_eq_ret, Prog.bind_assoc, wp_deviceId]
  iintro ⟨#Henv, HO, HT, HSA, HSB, HCI, Hwib⟩ Hk
  iapply (wp_send_exchange m K c 4 (by decide) 0 (dev10 c) rfl rfl rfl rfl) $$ [HO HT HSA]
  · isplitr; · iexact Henv
    isplitl [HO]; · iexact HO
    isplitl [HT]; · iexact HT
    iexact HSA
  iintro ⟨HO, HT, HXA⟩
  iapply (wp_send_exchange m K c 5 (by decide) 0 (dev11 c) rfl rfl rfl rfl) $$ [HO HT HSB]
  · isplitr; · iexact Henv
    isplitl [HO]; · iexact HO
    isplitl [HT]; · iexact HT
    iexact HSB
  iintro ⟨HO, HT, HXB⟩
  iapply (wp_copy_wait m (q := cpiD) (src := winM) (dst := wiM) K c 1 (by decide) (by decide) (by decide) 5 6 0 (fun _ h => expect_cpi m c h) (fun _ h => rest_cpi m c h) rfl) $$ [HO HCI]
  · isplitr; · iexact Henv
    isplitl [HO]; · iexact HO
    iexact HCI
  rw [srcAt_win]
  iintro ⟨HO, HCI, Hwi⟩
  iapply (wp_load_all c 2 rfl (X := winAt m 1 c) off_zero) $$ Hwi
  iintro Hwi
  ihave Hwib := (owns_any c wibM _) $$ Hwib
  iapply (wp_load_dead c wibM _) $$ Hwib
  iintro %v212 Hwib
  have e1 : k0_pay16 (winAt m 1 c) = winB m 1 c := rfl
  iapply (wp_store_all c 4 rfl off_zero e1) $$ Hwib
  iintro Hwib
  iapply Hk
  isplitl [HO]; · iexact HO
  isplitl [HT]; · iexact HT
  isplitl [HXA]; · iexact HXA
  isplitl [HXB]; · iexact HXB
  isplitl [HCI]; · iexact HCI
  isplitl [Hwi]; · iexact Hwi
  iexact Hwib

theorem part9 {α : Type} (K : Dev nD × Fin 64 → ℕ) (c : Dev nD) (v186 : BitVec 32) (v187 : BitVec 32)
    {k : (FVec F S64x1024 .f32) → Prog (TpuEff nD τ sig (Elt F) Λ₀ .tc) α} {Q : α → sProp 𝕄} :
    iprop(Env m K ∗ Owe (F := F) c 5 6 0 ∗ Flight (F := F) 4 c ∗ Done (F := F) c 4 ∗ Flight (F := F) 5 c)
      ⊢ iprop(((Owe (F := F) c 5 6 0 ∗ sendAny (F := F) 6 c ∗ Done (F := F) c 5 ∗ Away (F := F) 5 c ∗ sendAny (F := F) 7 c) -∗ wpc c (k (accAt m 0 0 3 c)) Q)
        -∗ wpc c (onBuffers (k0_part9 (F := F)) (accAt m 0 0 2 c) v186 v187 >>= k) Q) := by
  unfold onBuffers
  rw [k0_part9_eq_skeleton]; unfold k0_part9_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_snd m K c 4 (by decide) 6 rfl rfl) $$ [HO HXA]
  · isplitr; · iexact Henv
    isplitl [HO]; · iexact HO
    iexact HXA
  iintro ⟨HO, HXA, HSA⟩
  iapply (wp_wait_rcv m K c 4 (by decide) 6 (by decide) rfl rfl) $$ [HO HXA]
  · isplitr; · iexact Henv
    isplitl [HO]; · iexact HO
    iexact HXA
  iintro ⟨HO, HXA⟩
  iapply (wp_load_slot m c 4) $$ [HD HXA]
  · isplitl [HD]; · iexact HD
    iexact HXA
  iintro HD
  iapply (wp_wait_snd m K c 5 (by decide) 6 rfl rfl) $$ [HO HXB]
  · isplitr; · iexact Henv
    isplitl [HO]; · iexact HO
    iexact HXB
  iintro ⟨HO, HXB, HSB⟩
  have e1 : k0_pay17 (accAt m 0 0 2 c) (sentAt m 4 (pa 4 c)) = accAt m 0 0 3 c := by
    show joined (accAt m 0 0 2 c) (sentAt m 4 (pa 4 c)) = _
    rw [join_eq m c (i := 4) (h := 0) (l := 0) (s := 2) (t := 3) (by decide)]; try rfl
  rw [e1]
  iapply Hk
  isplitl [HO]; · iexact HO
  isplitl [HSA]; · iexact HSA
  isplitl [HD]; · iexact HD
  isplitl [HXB]; · iexact HXB
  iexact HSB

theorem part10 {α : Type} (K : Dev nD × Fin 64 → ℕ) (c : Dev nD) (v2 : BitVec 32)
    {k : (Σ' (v250 : FVec F S64x1024 .f32) (v259 : BitVec 32), BitVec 32) → Prog (TpuEff nD τ sig (Elt F) Λ₀ .tc) α} {Q : α → sProp 𝕄} :
    iprop(Env m K ∗ Owe (F := F) c 5 6 0 ∗ Away (F := F) 5 c ∗ Done (F := F) c 5 ∗ sendAny (F := F) 6 c ∗ sendAny (F := F) 7 c ∗ Todo (F := F) c 6)
      ⊢ iprop((∀ v259 : BitVec 32, ∀ v260 : BitVec 32, (Owe (F := F) c 5 7 0 ∗ Done (F := F) c 6 ∗ sendHas 7 (sentAt m 7 c) c ∗ Todo (F := F) c 7 ∗ Flight (F := F) 6 c) -∗ wpc c (k ⟨accAt m 1 0 3 c, v259, v260⟩) Q)
        -∗ wpc c (onBuffers (k0_part10 (F := F)) c v2 (accAt m 1 0 2 c) (accAt m 0 0 3 c) >>= k) Q) := by
  unfold onBuffers
  rw [k0_part10_eq_skeleton]; unfold k0_part10_skel
  simp only [semSignalWord, semWaitWord, Prog.lift, Prog.bind_op, Prog.bind_ret, Prog.pure_eq_ret, Prog.bind_assoc, wp_deviceId]
  iintro ⟨#Henv, HO, HXB, HD, HSA, HSB, HT⟩ Hk
  iapply (wp_wait_rcv m K c 5 (by decide) 6 (by decide) rfl rfl) $$ [HO HXB]
  · isplitr; · iexact Henv
    isplitl [HO]; · iexact HO
    iexact HXB
  iintro ⟨HO, HXB⟩
  iapply (wp_load_slot m c 5) $$ [HD HXB]
  · isplitl [HD]; · iexact HD
    iexact HXB
  iintro HD
  iapply (wp_load_send c 6) $$ HSA
  iintro %v252 HSA
  have e1 : k0_pay19 (accAt m 0 0 3 c) = sentAt m 6 c := rfl
  iapply (wp_store_send m c 6 e1) $$ HSA
  iintro HSA
  iapply (wp_load_send c 7) $$ HSB
  iintro %v256 HSB
  have e2 : k0_pay20 (accAt m 1 0 2 c) (sentAt m 5 (pa 5 c)) = sentAt m 7 c := by
    show sent (joined (accAt m 1 0 2 c) (sentAt m 5 (pa 5 c))) = _
    rw [join_eq m c (i := 5) (h := 1) (l := 0) (s := 2) (t := 3) (by decide)]; try rfl
  iapply (wp_store_send m c 7 e2) $$ HSB
  iintro HSB
  iapply (wp_send_exchange m K c 6 (by decide) 0 (dev12 c) rfl rfl rfl rfl) $$ [HO HT HSA]
  · isplitr; · iexact Henv
    isplitl [HO]; · iexact HO
    isplitl [HT]; · iexact HT
    iexact HSA
  iintro ⟨HO, HT, HXA⟩
  have e3 : k0_pay18 (accAt m 1 0 2 c) (sentAt m 5 (pa 5 c)) = accAt m 1 0 3 c := by
    show joined (accAt m 1 0 2 c) (sentAt m 5 (pa 5 c)) = _
    rw [join_eq m c (i := 5) (h := 1) (l := 0) (s := 2) (t := 3) (by decide)]; try rfl
  rw [e3]
  iapply Hk
  isplitl [HO]; · iexact HO
  isplitl [HD]; · iexact HD
  isplitl [HSB]; · iexact HSB
  isplitl [HT]; · iexact HT
  iexact HXA

theorem part11 {α : Type} (K : Dev nD × Fin 64 → ℕ) (c : Dev nD) (v259 : BitVec 32) (v260 : BitVec 32)
    {k : (PUnit) → Prog (TpuEff nD τ sig (Elt F) Λ₀ .tc) α} {Q : α → sProp 𝕄} :
    iprop(Env m K ∗ Owe (F := F) c 5 7 0 ∗ Todo (F := F) c 7 ∗ sendHas 7 (sentAt m 7 c) c ∗ owns (c : Thread nD τ) woM fullShare (woutAt m 0 c) ∗ Idle m cpoD woutM 1 c ∗ Flight (F := F) 6 c)
      ⊢ iprop(((Owe (F := F) c 5 8 0 ∗ Todo (F := F) c 8 ∗ Flight (F := F) 7 c ∗ Busy m cpoD woutM woM 1 c ∗ Got m 6 c ∗ sendAny (F := F) 8 c) -∗ wpc c (k ⟨⟩) Q)
        -∗ wpc c (onBuffers (k0_part11 (F := F)) c v259 v260 >>= k) Q) := by
  unfold onBuffers
  rw [k0_part11_eq_skeleton]; unfold k0_part11_skel
  simp only [semSignalWord, semWaitWord, Prog.lift, Prog.bind_op, Prog.bind_ret, Prog.pure_eq_ret, Prog.bind_assoc, wp_deviceId]
  iintro ⟨#Henv, HO, HT, HSB, Hwo, HCO, HXA⟩ Hk
  iapply (wp_send_exchange m K c 7 (by decide) 0 (dev13 c) rfl rfl rfl rfl) $$ [HO HT HSB]
  · isplitr; · iexact Henv
    isplitl [HO]; · iexact HO
    isplitl [HT]; · iexact HT
    iexact HSB
  iintro ⟨HO, HT, HXB⟩
  ihave Hwo := (owns_any c woM _) $$ Hwo
  iapply (wp_copy_start m (q := cpoD) (src := woutM) (dst := woM) K c 1 (by decide) (by decide) (fun _ h => duties_cpo m c h) (fun r => amount_cpo m c r 0) (fun r => payload_cpo m c r 0) rfl rfl) $$ [HCO Hwo]
  · isplitr; · iexact Henv
    isplitl [HCO]; · iexact HCO
    iexact Hwo
  iintro HCO
  iapply (wp_wait_snd m K c 6 (by decide) 8 rfl rfl) $$ [HO HXA]
  · isplitr; · iexact Henv
    isplitl [HO]; · iexact HO
    iexact HXA
  iintro ⟨HO, HXA, HSA⟩
  iapply (wp_wait_rcv m K c 6 (by decide) 8 (by decide) rfl rfl) $$ [HO HXA]
  · isplitr; · iexact Henv
    isplitl [HO]; · iexact HO
    iexact HXA
  iintro ⟨HO, HXA⟩
  iapply Hk
  isplitl [HO]; · iexact HO
  isplitl [HT]; · iexact HT
  isplitl [HXB]; · iexact HXB
  isplitl [HCO]; · iexact HCO
  isplitl [HXA]; · iexact HXA
  iexact HSA

theorem part12 {α : Type} (K : Dev nD × Fin 64 → ℕ) (c : Dev nD) (v260 : BitVec 32)
    {k : (Σ' (v300 : FVec F S64x1024 .f32) (v318 : FVec F S64x1024 .f32) (v323 : FVec F S64x1024 .bf16), Vec F S1x64x1024 .bf16) → Prog (TpuEff nD τ sig (Elt F) Λ₀ .tc) α} {Q : α → sProp 𝕄} :
    iprop(Env m K ∗ Done (F := F) c 6 ∗ Got m 6 c ∗ Owe (F := F) c 5 8 0 ∗ Flight (F := F) 7 c ∗ sendAny (F := F) 8 c)
      ⊢ iprop((∀ v324 : Vec F S1x64x1024 .bf16, (Done (F := F) c 8 ∗ Owe (F := F) c 5 8 0 ∗ sendAny (F := F) 9 c ∗ sendHas 8 (sentAt m 8 c) c) -∗ wpc c (k ⟨accAt m 0 0 4 c, accAt m 1 0 4 c, truncf .bf16 (accAt m 1 0 4 c) bitsLt_bf16_f32, v324⟩) Q)
        -∗ wpc c (onBuffers (k0_part12 (F := F)) (accAt m 0 0 3 c) (accAt m 1 0 3 c) v260 >>= k) Q) := by
  unfold onBuffers
  rw [k0_part12_eq_skeleton]; unfold k0_part12_skel
  simp only [semSignalWord, semWaitWord, Prog.lift, Prog.bind_op, Prog.bind_ret, Prog.pure_eq_ret, Prog.bind_assoc, wp_deviceId]
  iintro ⟨#Henv, HD, HXA, HO, HXB, HSA⟩ Hk
  iapply (wp_load_slot m c 6) $$ [HD HXA]
  · isplitl [HD]; · iexact HD
    iexact HXA
  iintro HD
  iapply (wp_wait_snd m K c 7 (by decide) 8 rfl rfl) $$ [HO HXB]
  · isplitr; · iexact Henv
    isplitl [HO]; · iexact HO
    iexact HXB
  iintro ⟨HO, HXB, HSB⟩
  iapply (wp_wait_rcv m K c 7 (by decide) 8 (by decide) rfl rfl) $$ [HO HXB]
  · isplitr; · iexact Henv
    isplitl [HO]; · iexact HO
    iexact HXB
  iintro ⟨HO, HXB⟩
  iapply (wp_load_slot m c 7) $$ [HD HXB]
  · isplitl [HD]; · iexact HD
    iexact HXB
  iintro HD
  iapply (wp_load_send c 8) $$ HSA
  iintro %v320 HSA
  have e1 : k0_pay23 (accAt m 0 0 3 c) (sentAt m 6 (pa 6 c)) = sentAt m 8 c := by
    show sent (joined (accAt m 0 0 3 c) (sentAt m 6 (pa 6 c))) = _
    rw [join_eq m c (i := 6) (h := 0) (l := 0) (s := 3) (t := 4) (by decide)]; try rfl
  iapply (wp_store_send m c 8 e1) $$ HSA
  iintro HSA
  iapply (wp_load_send c 9) $$ HSB
  iintro %v324 HSB
  have e2 : k0_pay21 (accAt m 0 0 3 c) (sentAt m 6 (pa 6 c)) = accAt m 0 0 4 c := by
    show joined (accAt m 0 0 3 c) (sentAt m 6 (pa 6 c)) = _
    rw [join_eq m c (i := 6) (h := 0) (l := 0) (s := 3) (t := 4) (by decide)]; try rfl
  have e3 : k0_pay22 (accAt m 1 0 3 c) (sentAt m 7 (pa 7 c)) = accAt m 1 0 4 c := by
    show joined (accAt m 1 0 3 c) (sentAt m 7 (pa 7 c)) = _
    rw [join_eq m c (i := 7) (h := 1) (l := 0) (s := 3) (t := 4) (by decide)]; try rfl
  have e4 : k0_pay24 (accAt m 1 0 3 c) (sentAt m 7 (pa 7 c)) = truncf .bf16 (accAt m 1 0 4 c) bitsLt_bf16_f32 := by
    show truncf .bf16 (joined (accAt m 1 0 3 c) (sentAt m 7 (pa 7 c))) bitsLt_bf16_f32 = _
    rw [join_eq m c (i := 7) (h := 1) (l := 0) (s := 3) (t := 4) (by decide)]; try rfl
  rw [e2, e3, e4]
  iapply Hk
  isplitl [HD]; · iexact HD
  isplitl [HO]; · iexact HO
  isplitl [HSB]; · iexact HSB
  iexact HSA

theorem part13 {α : Type} (K : Dev nD × Fin 64 → ℕ) (c : Dev nD) (v2 : BitVec 32) (v324 : Vec F S1x64x1024 .bf16)
    {k : (Σ' (v327 : BitVec 32), BitVec 32) → Prog (TpuEff nD τ sig (Elt F) Λ₀ .tc) α} {Q : α → sProp 𝕄} :
    iprop(Env m K ∗ sendAny (F := F) 9 c ∗ Owe (F := F) c 5 8 0 ∗ Todo (F := F) c 8 ∗ sendHas 8 (sentAt m 8 c) c)
      ⊢ iprop((∀ v327 : BitVec 32, ∀ v328 : BitVec 32, (Owe (F := F) c 5 10 0 ∗ Todo (F := F) c 10 ∗ Flight (F := F) 8 c ∗ Flight (F := F) 9 c) -∗ wpc c (k ⟨v327, v328⟩) Q)
        -∗ wpc c (onBuffers (k0_part13 (F := F)) c v2 (truncf .bf16 (accAt m 1 0 4 c) bitsLt_bf16_f32) v324 >>= k) Q) := by
  unfold onBuffers
  rw [k0_part13_eq_skeleton]; unfold k0_part13_skel
  simp only [semSignalWord, semWaitWord, Prog.lift, Prog.bind_op, Prog.bind_ret, Prog.pure_eq_ret, Prog.bind_assoc, wp_deviceId]
  iintro ⟨#Henv, HSB, HO, HT, HSA⟩ Hk
  have e1 : k0_pay25 (truncf .bf16 (accAt m 1 0 4 c) bitsLt_bf16_f32) = sentAt m 9 c := rfl
  iapply (wp_store_send m c 9 e1) $$ HSB
  iintro HSB
  iapply (wp_send_exchange m K c 8 (by decide) 0 (dev14 c) rfl rfl rfl rfl) $$ [HO HT HSA]
  · isplitr; · iexact Henv
    isplitl [HO]; · iexact HO
    isplitl [HT]; · iexact HT
    iexact HSA
  iintro ⟨HO, HT, HXA⟩
  iapply (wp_send_exchange m K c 9 (by decide) 0 (dev15 c) rfl rfl rfl rfl) $$ [HO HT HSB]
  · isplitr; · iexact Henv
    isplitl [HO]; · iexact HO
    isplitl [HT]; · iexact HT
    iexact HSB
  iintro ⟨HO, HT, HXB⟩
  iapply Hk
  isplitl [HO]; · iexact HO
  isplitl [HT]; · iexact HT
  isplitl [HXA]; · iexact HXA
  iexact HXB

theorem part14 {α : Type} (K : Dev nD × Fin 64 → ℕ) (c : Dev nD) (v327 : BitVec 32)
    {k : (FVec F S64x1024 .f32) → Prog (TpuEff nD τ sig (Elt F) Λ₀ .tc) α} {Q : α → sProp 𝕄} :
    iprop(Env m K ∗ Owe (F := F) c 5 10 0 ∗ Flight (F := F) 8 c ∗ Done (F := F) c 8 ∗ owns (c : Thread nD τ) wobM fullShare (woutB m 0 c) ∗ Flight (F := F) 9 c)
      ⊢ iprop(((Owe (F := F) c 5 10 0 ∗ sendAny (F := F) 10 c ∗ Done (F := F) c 9 ∗ owns (c : Thread nD τ) wobM fullShare (woutB m 0 c) ∗ Away (F := F) 9 c ∗ sendAny (F := F) 11 c) -∗ wpc c (k (outA m 0 c)) Q)
        -∗ wpc c (onBuffers (k0_part14 (F := F)) (accAt m 0 0 4 c) v327 >>= k) Q) := by
  unfold onBuffers
  rw [k0_part14_eq_skeleton]; unfold k0_part14_skel
  simp only [semSignalWord, semWaitWord, Prog.lift, Prog.bind_op, Prog.bind_ret, Prog.pure_eq_ret, Prog.bind_assoc, wp_deviceId]
  iintro ⟨#Henv, HO, HXA, HD, Hwob, HXB⟩ Hk
  iapply (wp_wait_snd m K c 8 (by decide) 10 rfl rfl) $$ [HO HXA]
  · isplitr; · iexact Henv
    isplitl [HO]; · iexact HO
    iexact HXA
  iintro ⟨HO, HXA, HSA⟩
  iapply (wp_wait_rcv m K c 8 (by decide) 10 (by decide) rfl rfl) $$ [HO HXA]
  · isplitr; · iexact Henv
    isplitl [HO]; · iexact HO
    iexact HXA
  iintro ⟨HO, HXA⟩
  iapply (wp_load_slot m c 8) $$ [HD HXA]
  · isplitl [HD]; · iexact HD
    iexact HXA
  iintro HD
  iapply (wp_load_rows c 0) $$ Hwob
  iintro Hwob
  iapply (wp_wait_snd m K c 9 (by decide) 10 rfl rfl) $$ [HO HXB]
  · isplitr; · iexact Henv
    isplitl [HO]; · iexact HO
    iexact HXB
  iintro ⟨HO, HXB, HSB⟩
  have e1 : k0_pay26 (accAt m 0 0 4 c) (sentAt m 8 (pa 8 c)) (rows 0 (woutB m 0 c)) = outA m 0 c := by
    show mm (actv (joined (accAt m 0 0 4 c) (sentAt m 8 (pa 8 c)))) (rows 0 (woutB m 0 c)) = _
    rw [join_eq m c (i := 8) (h := 0) (l := 0) (s := 4) (t := 5) (by decide)]; try rfl
  rw [e1]
  iapply Hk
  isplitl [HO]; · iexact HO
  isplitl [HSA]; · iexact HSA
  isplitl [HD]; · iexact HD
  isplitl [Hwob]; · iexact Hwob
  isplitl [HXB]; · iexact HXB
  iexact HSB

end Cert.Mlp

end
-- ==== Proof.Layer1.lean ====
/-
The second layer of the body, part by part as printed: what a part finds in the buffers it touches, what it leaves there,
and the blocks it hands to the parts after it. A word that a part returns is never read again, so nothing is said of it.
-/
module

public import proofs.«01_k».proof.Proof.Ops

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part15 {α : Type} (K : Dev nD × Fin 64 → ℕ) (c : Dev nD) (v2 : BitVec 32) (v328 : BitVec 32)
    {k : (Σ' (v396 : FVec F S64x1024 .bf16) (v398 : FVec F S64x1024 .f32) (v403 : BitVec 32), BitVec 32) → Prog (TpuEff nD τ sig (Elt F) Λ₀ .tc) α} {Q : α → sProp 𝕄} :
    iprop(Env m K ∗ Owe (F := F) c 5 10 0 ∗ Away (F := F) 9 c ∗ Done (F := F) c 9 ∗ owns (c : Thread nD τ) wobM fullShare (woutB m 0 c) ∗ owns (c : Thread nD τ) wibM fullShare (winB m 1 c) ∗ sendAny (F := F) 10 c)
      ⊢ iprop((∀ v403 : BitVec 32, ∀ v404 : BitVec 32, (Owe (F := F) c 5 10 0 ∗ Done (F := F) c 10 ∗ owns (c : Thread nD τ) wobM fullShare (woutB m 0 c) ∗ owns (c : Thread nD τ) wibM fullShare (winB m 1 c) ∗ sendHas 10 (sentAt m 10 c) c) -∗ wpc c (k ⟨xin m 1 c, accAt m 0 1 0 c, v403, v404⟩) Q)
        -∗ wpc c (onBuffers (k0_part15 (F := F)) v2 (accAt m 1 0 4 c) v328 (outA m 0 c) >>= k) Q) := by
  unfold onBuffers
  rw [k0_part15_eq_skeleton]; unfold k0_part15_skel
  simp only [semSignalWord, semWaitWord, Prog.lift, Prog.bind_op, Prog.bind_ret, Prog.pure_eq_ret, Prog.bind_assoc, wp_deviceId]
  iintro ⟨#Henv, HO, HXB, HD, Hwob, Hwib, HSA⟩ Hk
  iapply (wp_wait_rcv m K c 9 (by decide) 10 (by decide) rfl rfl) $$ [HO HXB]
  · isplitr; · iexact Henv
    isplitl [HO]; · iexact HO
    iexact HXB
  iintro ⟨HO, HXB⟩
  iapply (wp_load_slot m c 9) $$ [HD HXB]
  · isplitl [HD]; · iexact HD
    iexact HXB
  iintro HD
  iapply (wp_load_rows c 1) $$ Hwob
  iintro Hwob
  iapply (wp_load_cols c 0) $$ Hwib
  iintro Hwib
  iapply (wp_load_send c 10) $$ HSA
  iintro %v400 HSA
  have e1 : k0_pay29 (accAt m 1 0 4 c) (outA m 0 c) (sentAt m 9 (pa 9 c)) (rows 1 (woutB m 0 c)) (cols 0 (winB m 1 c)) = sentAt m 10 c := by
    show sent (mm (truncf .bf16 (addf (outA m 0 c) (mm (actv (joined (accAt m 1 0 4 c) (sentAt m 9 (pa 9 c)))) (rows 1 (woutB m 0 c)))) bitsLt_bf16_f32) (cols 0 (winB m 1 c))) = _
    rw [join_eq m c (i := 9) (h := 1) (l := 0) (s := 4) (t := 5) (by decide)]; try rfl
  iapply (wp_store_send m c 10 e1) $$ HSA
  iintro HSA
  have e2 : k0_pay27 (accAt m 1 0 4 c) (outA m 0 c) (sentAt m 9 (pa 9 c)) (rows 1 (woutB m 0 c)) = xin m 1 c := by
    show truncf .bf16 (addf (outA m 0 c) (mm (actv (joined (accAt m 1 0 4 c) (sentAt m 9 (pa 9 c)))) (rows 1 (woutB m 0 c)))) bitsLt_bf16_f32 = _
    rw [join_eq m c (i := 9) (h := 1) (l := 0) (s := 4) (t := 5) (by decide)]; try rfl
  have e3 : k0_pay28 (accAt m 1 0 4 c) (outA m 0 c) (sentAt m 9 (pa 9 c)) (rows 1 (woutB m 0 c)) (cols 0 (winB m 1 c)) = accAt m 0 1 0 c := by
    show mm (truncf .bf16 (addf (outA m 0 c) (mm (actv (joined (accAt m 1 0 4 c) (sentAt m 9 (pa 9 c)))) (rows 1 (woutB m 0 c)))) bitsLt_bf16_f32) (cols 0 (winB m 1 c)) = _
    rw [join_eq m c (i := 9) (h := 1) (l := 0) (s := 4) (t := 5) (by decide)]; try rfl
  rw [e2, e3]
  iapply Hk
  isplitl [HO]; · iexact HO
  isplitl [HD]; · iexact HD
  isplitl [Hwob]; · iexact Hwob
  isplitl [Hwib]; · iexact Hwib
  iexact HSA

theorem part16 {α : Type} (K : Dev nD × Fin 64 → ℕ) (c : Dev nD) (v404 : BitVec 32)
    {k : (FVec F S64x1024 .f32) → Prog (TpuEff nD τ sig (Elt F) Λ₀ .tc) α} {Q : α → sProp 𝕄} :
    iprop(Env m K ∗ Owe (F := F) c 5 10 0 ∗ Todo (F := F) c 10 ∗ sendHas 10 (sentAt m 10 c) c ∗ owns (c : Thread nD τ) wibM fullShare (winB m 1 c) ∗ sendAny (F := F) 11 c ∗ Busy m cpoD woutM woM 1 c ∗ owns (c : Thread nD τ) wobM fullShare (woutB m 0 c))
      ⊢ iprop(((Owe (F := F) c 5 12 0 ∗ Todo (F := F) c 12 ∗ Flight (F := F) 10 c ∗ owns (c : Thread nD τ) wibM fullShare (winB m 1 c) ∗ Flight (F := F) 11 c ∗ Idle m cpoD woutM 2 c ∗ owns (c : Thread nD τ) woM fullShare (woutAt m 1 c) ∗ owns (c : Thread nD τ) wobM fullShare (woutB m 1 c)) -∗ wpc c (k (accAt m 1 1 0 c)) Q)
        -∗ wpc c (onBuffers (k0_part16 (F := F)) c (xin m 1 c) v404 >>= k) Q) := by
  unfold onBuffers
  rw [k0_part16_eq_skeleton]; unfold k0_part16_skel
  simp only [semSignalWord, semWaitWord, Prog.lift, Prog.bind_op, Prog.bind_ret, Prog.pure_eq_ret, Prog.bind_assoc, wp_deviceId]
  iintro ⟨#Henv, HO, HT, HSA, Hwib, HSB, HCO, Hwob⟩ Hk
  iapply (wp_send_exchange m K c 10 (by decide) 0 (dev16 c) rfl rfl rfl rfl) $$ [HO HT HSA]
  · isplitr; · iexact Henv
    isplitl [HO]; · iexact HO
    isplitl [HT]; · iexact HT
    iexact HSA
  iintro ⟨HO, HT, HXA⟩
  iapply (wp_load_cols c 1) $$ Hwib
  iintro Hwib
  iapply (wp_load_send c 11) $$ HSB
  iintro %v418 HSB
  have e1 : k0_pay31 (xin m 1 c) (cols 1 (winB m 1 c)) = sentAt m 11 c := rfl
  iapply (wp_store_send m c 11 e1) $$ HSB
  iintro HSB
  iapply (wp_send_exchange m K c 11 (by decide) 0 (dev17 c) rfl rfl rfl rfl) $$ [HO HT HSB]
  · isplitr; · iexact Henv
    isplitl [HO]; · iexact HO
    isplitl [HT]; · iexact HT
    iexact HSB
  iintro ⟨HO, HT, HXB⟩
  iapply (wp_copy_wait m (q := cpoD) (src := woutM) (dst := woM) K c 1 (by decide) (by decide) (by decide) 5 12 0 (fun _ h => expect_cpo m c h) (fun _ h => rest_cpo m c h) rfl) $$ [HO HCO]
  · isplitr; · iexact Henv
    isplitl [HO]; · iexact HO
    iexact HCO
  rw [srcAt_wout]
  iintro ⟨HO, HCO, Hwo⟩
  iapply (wp_load_all c 3 rfl (X := woutAt m 1 c) off_zero) $$ Hwo
  iintro Hwo
  ihave Hwob := (owns_any c wobM _) $$ Hwob
  iapply (wp_load_dead c wobM _) $$ Hwob
  iintro %v435 Hwob
  have e2 : k0_pay32 (woutAt m 1 c) = woutB m 1 c := rfl
  iapply (wp_store_all c 5 rfl off_zero e2) $$ Hwob
  iintro Hwob
  have e3 : k0_pay30 (xin m 1 c) (cols 1 (winB m 1 c)) = accAt m 1 1 0 c := rfl
  rw [e3]
  iapply Hk
  isplitl [HO]; · iexact HO
  isplitl [HT]; · iexact HT
  isplitl [HXA]; · iexact HXA
  isplitl [Hwib]; · iexact Hwib
  isplitl [HXB]; · iexact HXB
  isplitl [HCO]; · iexact HCO
  isplitl [Hwo]; · iexact Hwo
  iexact Hwob

theorem part17 {α : Type} (K : Dev nD × Fin 64 → ℕ) (c : Dev nD) (v403 : BitVec 32)
    {k : (FVec F S64x1024 .f32) → Prog (TpuEff nD τ sig (Elt F) Λ₀ .tc) α} {Q : α → sProp 𝕄} :
    iprop(Env m K ∗ Owe (F := F) c 5 12 0 ∗ Flight (F := F) 10 c ∗ Done (F := F) c 10 ∗ Flight (F := F) 11 c)
      ⊢ iprop(((Owe (F := F) c 5 12 0 ∗ sendAny (F := F) 12 c ∗ Done (F := F) c 11 ∗ Away (F := F) 11 c ∗ sendAny (F := F) 13 c) -∗ wpc c (k (accAt m 0 1 1 c)) Q)
        -∗ wpc c (onBuffers (k0_part17 (F := F)) (accAt m 0 1 0 c) v403 >>= k) Q) := by
  unfold onBuffers
  rw [k0_part17_eq_skeleton]; unfold k0_part17_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_snd m K c 10 (by decide) 12 rfl rfl) $$ [HO HXA]
  · isplitr; · iexact Henv
    isplitl [HO]; · iexact HO
    iexact HXA
  iintro ⟨HO, HXA, HSA⟩
  iapply (wp_wait_rcv m K c 10 (by decide) 12 (by decide) rfl rfl) $$ [HO HXA]
  · isplitr; · iexact Henv
    isplitl [HO]; · iexact HO
    iexact HXA
  iintro ⟨HO, HXA⟩
  iapply (wp_load_slot m c 10) $$ [HD HXA]
  · isplitl [HD]; · iexact HD
    iexact HXA
  iintro HD
  iapply (wp_wait_snd m K c 11 (by decide) 12 rfl rfl) $$ [HO HXB]
  · isplitr; · iexact Henv
    isplitl [HO]; · iexact HO
    iexact HXB
  iintro ⟨HO, HXB, HSB⟩
  have e1 : k0_pay33 (accAt m 0 1 0 c) (sentAt m 10 (pa 10 c)) = accAt m 0 1 1 c := by
    show joined (accAt m 0 1 0 c) (sentAt m 10 (pa 10 c)) = _
    rw [join_eq m c (i := 10) (h := 0) (l := 1) (s := 0) (t := 1) (by decide)]; try rfl
  rw [e1]
  iapply Hk
  isplitl [HO]; · iexact HO
  isplitl [HSA]; · iexact HSA
  isplitl [HD]; · iexact HD
  isplitl [HXB]; · iexact HXB
  iexact HSB

theorem part18 {α : Type} (K : Dev nD × Fin 64 → ℕ) (c : Dev nD) (v2 : BitVec 32) (v404 : BitVec 32)
    {k : (Σ' (v473 : FVec F S64x1024 .f32) (v482 : BitVec 32), BitVec 32) → Prog (TpuEff nD τ sig (Elt F) Λ₀ .tc) α} {Q : α → sProp 𝕄} :
    iprop(Env m K ∗ Owe (F := F) c 5 12 0 ∗ Away (F := F) 11 c ∗ Done (F := F) c 11 ∗ sendAny (F := F) 12 c ∗ sendAny (F := F) 13 c)
      ⊢ iprop((∀ v482 : BitVec 32, ∀ v483 : BitVec 32, (Owe (F := F) c 5 12 0 ∗ Done (F := F) c 12 ∗ sendHas 12 (sentAt m 12 c) c ∗ sendHas 13 (sentAt m 13 c) c) -∗ wpc c (k ⟨accAt m 1 1 1 c, v482, v483⟩) Q)
        -∗ wpc c (onBuffers (k0_part18 (F := F)) v2 v404 (accAt m 1 1 0 c) (accAt m 0 1 1 c) >>= k) Q) := by
  unfold onBuffers
  rw [k0_part18_eq_skeleton]; unfold k0_part18_skel
  simp only [semSignalWord, semWaitWord, Prog.lift, Prog.bind_op, Prog.bind_ret, Prog.pure_eq_ret, Prog.bind_assoc, wp_deviceId]
  iintro ⟨#Henv, HO, HXB, HD, HSA, HSB⟩ Hk
  iapply (wp_wait_rcv m K c 11 (by decide) 12 (by decide) rfl rfl) $$ [HO HXB]
  · isplitr; · iexact Henv
    isplitl [HO]; · iexact HO
    iexact HXB
  iintro ⟨HO, HXB⟩
  iapply (wp_load_slot m c 11) $$ [HD HXB]
  · isplitl [HD]; · iexact HD
    iexact HXB
  iintro HD
  iapply (wp_load_send c 12) $$ HSA
  iintro %v475 HSA
  have e1 : k0_pay35 (accAt m 0 1 1 c) = sentAt m 12 c := rfl
  iapply (wp_store_send m c 12 e1) $$ HSA
  iintro HSA
  iapply (wp_load_send c 13) $$ HSB
  iintro %v479 HSB
  have e2 : k0_pay36 (accAt m 1 1 0 c) (sentAt m 11 (pa 11 c)) = sentAt m 13 c := by
    show sent (joined (accAt m 1 1 0 c) (sentAt m 11 (pa 11 c))) = _
    rw [join_eq m c (i := 11) (h := 1) (l := 1) (s := 0) (t := 1) (by decide)]; try rfl
  iapply (wp_store_send m c 13 e2) $$ HSB
  iintro HSB
  have e3 : k0_pay34 (accAt m 1 1 0 c) (sentAt m 11 (pa 11 c)) = accAt m 1 1 1 c := by
    show joined (accAt m 1 1 0 c) (sentAt m 11 (pa 11 c)) = _
    rw [join_eq m c (i := 11) (h := 1) (l := 1) (s := 0) (t := 1) (by decide)]; try rfl
  rw [e3]
  iapply Hk
  isplitl [HO]; · iexact HO
  isplitl [HD]; · iexact HD
  isplitl [HSA]; · iexact HSA
  iexact HSB

theorem part19 {α : Type} (K : Dev nD × Fin 64 → ℕ) (c : Dev nD) (v482 : BitVec 32) (v483 : BitVec 32)
    {k : (PUnit) → Prog (TpuEff nD τ sig (Elt F) Λ₀ .tc) α} {Q : α → sProp 𝕄} :
    iprop(Env m K ∗ Owe (F := F) c 5 12 0 ∗ Todo (F := F) c 12 ∗ sendHas 12 (sentAt m 12 c) c ∗ sendHas 13 (sentAt m 13 c) c ∗ owns (c : Thread nD τ) wiM fullShare (winAt m 1 c) ∗ Idle m cpiD winM 2 c)
      ⊢ iprop(((Owe (F := F) c 5 14 0 ∗ Todo (F := F) c 14 ∗ sendAny (F := F) 14 c ∗ Away (F := F) 12 c ∗ Flight (F := F) 13 c ∗ Busy m cpiD winM wiM 2 c) -∗ wpc c (k ⟨⟩) Q)
        -∗ wpc c (onBuffers (k0_part19 (F := F)) c v482 v483 >>= k) Q) := by
  unfold onBuffers
  rw [k0_part19_eq_skeleton]; unfold k0_part19_skel
  simp only [semSignalWord, semWaitWord, Prog.lift, Prog.bind_op, Prog.bind_ret, Prog.pure_eq_ret, Prog.bind_assoc, wp_deviceId]
  iintro ⟨#Henv, HO, HT, HSA, HSB, Hwi, HCI⟩ Hk
  iapply (wp_send_exchange m K c 12 (by decide) 0 (dev18 c) rfl rfl rfl rfl) $$ [HO HT HSA]
  · isplitr; · iexact Henv
    isplitl [HO]; · iexact HO
    isplitl [HT]; · iexact HT
    iexact HSA
  iintro ⟨HO, HT, HXA⟩
  iapply (wp_send_exchange m K c 13 (by decide) 0 (dev19 c) rfl rfl rfl rfl) $$ [HO HT HSB]
  · isplitr; · iexact Henv
    isplitl [HO]; · iexact HO
    isplitl [HT]; · iexact HT
    iexact HSB
  iintro ⟨HO, HT, HXB⟩
  ihave Hwi := (owns_any c wiM _) $$ Hwi
  iapply (wp_copy_start m (q := cpiD) (src := winM) (dst := wiM) K c 2 (by decide) (by decide) (fun _ h => duties_cpi m c h) (fun r => amount_cpi m c r 0) (fun r => payload_cpi m c r 0) rfl rfl) $$ [HCI Hwi]
  · isplitr; · iexact Henv
    isplitl [HCI]; · iexact HCI
    iexact Hwi
  iintro HCI
  iapply (wp_wait_snd m K c 12 (by decide) 14 rfl rfl) $$ [HO HXA]
  · isplitr; · iexact Henv
    isplitl [HO]; · iexact HO
    iexact HXA
  iintro ⟨HO, HXA, HSA⟩
  iapply Hk
  isplitl [HO]; · iexact HO
  isplitl [HT]; · iexact HT
  isplitl [HSA]; · iexact HSA
  isplitl [HXA]; · iexact HXA
  isplitl [HXB]; · iexact HXB
  iexact HCI

theorem part20 {α : Type} (K : Dev nD × Fin 64 → ℕ) (c : Dev nD) (v483 : BitVec 32)
    {k : (Σ' (v523 : FVec F S64x1024 .f32) (v541 : FVec F S64x1024 .f32), FVec F S1x64x1024 .bf16) → Prog (TpuEff nD τ sig (Elt F) Λ₀ .tc) α} {Q : α → sProp 𝕄} :
    iprop(Env m K ∗ Owe (F := F) c 5 14 0 ∗ Away (F := F) 12 c ∗ Done (F := F) c 12 ∗ Flight (F := F) 13 c ∗ sendAny (F := F) 14 c)
      ⊢ iprop(((Owe (F := F) c 5 14 0 ∗ Done (F := F) c 14 ∗ sendAny (F := F) 15 c ∗ sendAny (F := F) 14 c) -∗ wpc c (k ⟨accAt m 0 1 2 c, accAt m 1 1 2 c, sentAt m 14 c⟩) Q)
        -∗ wpc c (onBuffers (k0_part20 (F := F)) (accAt m 0 1 1 c) (accAt m 1 1 1 c) v483 >>= k) Q) := by
  unfold onBuffers
  rw [k0_part20_eq_skeleton]; unfold k0_part20_skel
  simp only [semSignalWord, semWaitWord, Prog.lift, Prog.bind_op, Prog.bind_ret, Prog.pure_eq_ret, Prog.bind_assoc, wp_deviceId]
  iintro ⟨#Henv, HO, HXA, HD, HXB, HSA⟩ Hk
  iapply (wp_wait_rcv m K c 12 (by decide) 14 (by decide) rfl rfl) $$ [HO HXA]
  · isplitr; · iexact Henv
    isplitl [HO]; · iexact HO
    iexact HXA
  iintro ⟨HO, HXA⟩
  iapply (wp_load_slot m c 12) $$ [HD HXA]
  · isplitl [HD]; · iexact HD
    iexact HXA
  iintro HD
  iapply (wp_wait_snd m K c 13 (by decide) 14 rfl rfl) $$ [HO HXB]
  · isplitr; · iexact Henv
    isplitl [HO]; · iexact HO
    iexact HXB
  iintro ⟨HO, HXB, HSB⟩
  iapply (wp_wait_rcv m K c 13 (by decide) 14 (by decide) rfl rfl) $$ [HO HXB]
  · isplitr; · iexact Henv
    isplitl [HO]; · iexact HO
    iexact HXB
  iintro ⟨HO, HXB⟩
  iapply (wp_load_slot m c 13) $$ [HD HXB]
  · isplitl [HD]; · iexact HD
    iexact HXB
  iintro HD
  iapply (wp_load_send c 14) $$ HSA
  iintro %v543 HSA
  have e1 : k0_pay37 (accAt m 0 1 1 c) (sentAt m 12 (pa 12 c)) = accAt m 0 1 2 c := by
    show joined (accAt m 0 1 1 c) (sentAt m 12 (pa 12 c)) = _
    rw [join_eq m c (i := 12) (h := 0) (l := 1) (s := 1) (t := 2) (by decide)]; try rfl
  have e2 : k0_pay38 (accAt m 1 1 1 c) (sentAt m 13 (pa 13 c)) = accAt m 1 1 2 c := by
    show joined (accAt m 1 1 1 c) (sentAt m 13 (pa 13 c)) = _
    rw [join_eq m c (i := 13) (h := 1) (l := 1) (s := 1) (t := 2) (by decide)]; try rfl
  have e3 : k0_pay39 (accAt m 0 1 1 c) (sentAt m 12 (pa 12 c)) = sentAt m 14 c := by
    show sent (joined (accAt m 0 1 1 c) (sentAt m 12 (pa 12 c))) = _
    rw [join_eq m c (i := 12) (h := 0) (l := 1) (s := 1) (t := 2) (by decide)]; try rfl
  rw [e1, e2, e3]
  iapply Hk
  isplitl [HO]; · iexact HO
  isplitl [HD]; · iexact HD
  isplitl [HSB]; · iexact HSB
  iexact HSA

theorem part21 {α : Type} (K : Dev nD × Fin 64 → ℕ) (c : Dev nD) (v2 : BitVec 32)
    {k : (Σ' (v550 : BitVec 32), BitVec 32) → Prog (TpuEff nD τ sig (Elt F) Λ₀ .tc) α} {Q : α → sProp 𝕄} :
    iprop(Env m K ∗ sendAny (F := F) 14 c ∗ sendAny (F := F) 15 c ∗ Owe (F := F) c 5 14 0 ∗ Todo (F := F) c 14 ∗ Busy m cpiD winM wiM 2 c)
      ⊢ iprop((∀ v550 : BitVec 32, ∀ v551 : BitVec 32, (Owe (F := F) c 5 16 0 ∗ Todo (F := F) c 16 ∗ Flight (F := F) 14 c ∗ Flight (F := F) 15 c ∗ Idle m cpiD winM 3 c ∗ owns (c : Thread nD τ) wiM fullShare (winAt m 2 c)) -∗ wpc c (k ⟨v550, v551⟩) Q)
        -∗ wpc c (onBuffers (k0_part21 (F := F)) c v2 (accAt m 1 1 2 c) (sentAt m 14 c) >>= k) Q) := by
  unfold onBuffers
  rw [k0_part21_eq_skeleton]; unfold k0_part21_skel
  simp only [semSignalWord, semWaitWord, Prog.lift, Prog.bind_op, Prog.bind_ret, Prog.pure_eq_ret, Prog.bind_assoc, wp_deviceId]
  iintro ⟨#Henv, HSA, HSB, HO, HT, HCI⟩ Hk
  have e1 : (sentAt m 14 c) = sentAt m 14 c := rfl
  iapply (wp_store_send m c 14 e1) $$ HSA
  iintro HSA
  iapply (wp_load_send c 15) $$ HSB
  iintro %v547 HSB
  have e2 : k0_pay40 (accAt m 1 1 2 c) = sentAt m 15 c := rfl
  iapply (wp_store_send m c 15 e2) $$ HSB
  iintro HSB
  iapply (wp_send_exchange m K c 14 (by decide) 0 (dev20 c) rfl rfl rfl rfl) $$ [HO HT HSA]
  · isplitr; · iexact Henv
    isplitl [HO]; · iexact HO
    isplitl [HT]; · iexact HT
    iexact HSA
  iintro ⟨HO, HT, HXA⟩
  iapply (wp_send_exchange m K c 15 (by decide) 0 (dev21 c) rfl rfl rfl rfl) $$ [HO HT HSB]
  · isplitr; · iexact Henv
    isplitl [HO]; · iexact HO
    isplitl [HT]; · iexact HT
    iexact HSB
  iintro ⟨HO, HT, HXB⟩
  iapply (wp_copy_wait m (q := cpiD) (src := winM) (dst := wiM) K c 2 (by decide) (by decide) (by decide) 5 16 0 (fun _ h => expect_cpi m c h) (fun _ h => rest_cpi m c h) rfl) $$ [HO HCI]
  · isplitr; · iexact Henv
    isplitl [HO]; · iexact HO
    iexact HCI
  rw [srcAt_win]
  iintro ⟨HO, HCI, Hwi⟩
  iapply Hk
  isplitl [HO]; · iexact HO
  isplitl [HT]; · iexact HT
  isplitl [HXA]; · iexact HXA
  isplitl [HXB]; · iexact HXB
  isplitl [HCI]; · iexact HCI
  iexact Hwi

theorem part22 {α : Type} (K : Dev nD × Fin 64 → ℕ) (c : Dev nD) (v550 : BitVec 32)
    {k : (FVec F S64x1024 .f32) → Prog (TpuEff nD τ sig (Elt F) Λ₀ .tc) α} {Q : α → sProp 𝕄} :
    iprop(Env m K ∗ owns (c : Thread nD τ) wiM fullShare (winAt m 2 c) ∗ owns (c : Thread nD τ) wibM fullShare (winB m 1 c) ∗ Owe (F := F) c 5 16 0 ∗ Flight (F := F) 14 c ∗ Done (F := F) c 14)
      ⊢ iprop(((owns (c : Thread nD τ) wiM fullShare (winAt m 2 c) ∗ owns (c : Thread nD τ) wibM fullShare (winB m 2 c) ∗ Owe (F := F) c 5 16 0 ∗ sendAny (F := F) 16 c ∗ Done (F := F) c 15) -∗ wpc c (k (accAt m 0 1 3 c)) Q)
        -∗ wpc c (onBuffers (k0_part22 (F := F)) (accAt m 0 1 2 c) v550 >>= k) Q) := by
  unfold onBuffers
  rw [k0_part22_eq_skeleton]; unfold k0_part22_skel
  simp only [semSignalWord, semWaitWord, Prog.lift, Prog.bind_op, Prog.bind_ret, Prog.pure_eq_ret, Prog.bind_assoc, wp_deviceId]
  iintro ⟨#Henv, Hwi, Hwib, HO, HXA, HD⟩ Hk
  iapply (wp_load_all c 2 rfl (X := winAt m 2 c) off_zero) $$ Hwi
  iintro Hwi
  ihave Hwib := (owns_any c wibM _) $$ Hwib
  iapply (wp_load_dead c wibM _) $$ Hwib
  iintro %v576 Hwib
  have e1 : k0_pay41 (winAt m 2 c) = winB m 2 c := rfl
  iapply (wp_store_all c 4 rfl off_zero e1) $$ Hwib
  iintro Hwib
  iapply (wp_wait_snd m K c 14 (by decide) 16 rfl rfl) $$ [HO HXA]
  · isplitr; · iexact Henv
    isplitl [HO]; · iexact HO
    iexact HXA
  iintro ⟨HO, HXA, HSA⟩
  iapply (wp_wait_rcv m K c 14 (by decide) 16 (by decide) rfl rfl) $$ [HO HXA]
  · isplitr; · iexact Henv
    isplitl [HO]; · iexact HO
    iexact HXA
  iintro ⟨HO, HXA⟩
  iapply (wp_load_slot m c 14) $$ [HD HXA]
  · isplitl [HD]; · iexact HD
    iexact HXA
  iintro HD
  have e2 : k0_pay42 (accAt m 0 1 2 c) (sentAt m 14 (pa 14 c)) = accAt m 0 1 3 c := by
    show joined (accAt m 0 1 2 c) (sentAt m 14 (pa 14 c)) = _
    rw [join_eq m c (i := 14) (h := 0) (l := 1) (s := 2) (t := 3) (by decide)]; try rfl
  rw [e2]
  iapply Hk
  isplitl [Hwi]; · iexact Hwi
  isplitl [Hwib]; · iexact Hwib
  isplitl [HO]; · iexact HO
  isplitl [HSA]; · iexact HSA
  iexact HD

theorem part23 {α : Type} (K : Dev nD × Fin 64 → ℕ) (c : Dev nD) (v2 : BitVec 32) (v551 : BitVec 32)
    {k : (Σ' (v614 : FVec F S64x1024 .f32) (v623 : BitVec 32) (v624 : BitVec 32) (v625 : BitVec 32), BitVec 32) → Prog (TpuEff nD τ sig (Elt F) Λ₀ .tc) α} {Q : α → sProp 𝕄} :
    iprop(Env m K ∗ Owe (F := F) c 5 16 0 ∗ Flight (F := F) 15 c ∗ Done (F := F) c 15 ∗ sendAny (F := F) 16 c)
      ⊢ iprop((∀ v623 : BitVec 32, ∀ v624 : BitVec 32, ∀ v625 : BitVec 32, ∀ c0_i32_643 : BitVec 32, (Owe (F := F) c 5 16 0 ∗ sendHas 17 (sentAt m 17 c) c ∗ Done (F := F) c 16 ∗ sendHas 16 (sentAt m 16 c) c) -∗ wpc c (k ⟨accAt m 1 1 3 c, v623, v624, v625, c0_i32_643⟩) Q)
        -∗ wpc c (onBuffers (k0_part23 (F := F)) v2 (accAt m 1 1 2 c) v551 (accAt m 0 1 3 c) >>= k) Q) := by
  unfold onBuffers
  rw [k0_part23_eq_skeleton]; unfold k0_part23_skel
  simp only [semSignalWord, semWaitWord, Prog.lift, Prog.bind_op, Prog.bind_ret, Prog.pure_eq_ret, Prog.bind_assoc, wp_deviceId]
  iintro ⟨#Henv, HO, HXB, HD, HSA⟩ Hk
  iapply (wp_wait_snd m K c 15 (by decide) 16 rfl rfl) $$ [HO HXB]
  · isplitr; · iexact Henv
    isplitl [HO]; · iexact HO
    iexact HXB
  iintro ⟨HO, HXB, HSB⟩
  iapply (wp_wait_rcv m K c 15 (by decide) 16 (by decide) rfl rfl) $$ [HO HXB]
  · isplitr; · iexact Henv
    isplitl [HO]; · iexact HO
    iexact HXB
  iintro ⟨HO, HXB⟩
  iapply (wp_load_slot m c 15) $$ [HD HXB]
  · isplitl [HD]; · iexact HD
    iexact HXB
  iintro HD
  iapply (wp_load_send c 16) $$ HSA
  iintro %v616 HSA
  have e1 : k0_pay44 (accAt m 0 1 3 c) = sentAt m 16 c := rfl
  iapply (wp_store_send m c 16 e1) $$ HSA
  iintro HSA
  iapply (wp_load_send c 17) $$ HSB
  iintro %v620 HSB
  have e2 : k0_pay45 (accAt m 1 1 2 c) (sentAt m 15 (pa 15 c)) = sentAt m 17 c := by
    show sent (joined (accAt m 1 1 2 c) (sentAt m 15 (pa 15 c))) = _
    rw [join_eq m c (i := 15) (h := 1) (l := 1) (s := 2) (t := 3) (by decide)]; try rfl
  iapply (wp_store_send m c 17 e2) $$ HSB
  iintro HSB
  have e3 : k0_pay43 (accAt m 1 1 2 c) (sentAt m 15 (pa 15 c)) = accAt m 1 1 3 c := by
    show joined (accAt m 1 1 2 c) (sentAt m 15 (pa 15 c)) = _
    rw [join_eq m c (i := 15) (h := 1) (l := 1) (s := 2) (t := 3) (by decide)]; try rfl
  rw [e3]
  iapply Hk
  isplitl [HO]; · iexact HO
  isplitl [HSB]; · iexact HSB
  isplitl [HD]; · iexact HD
  iexact HSA

theorem part24 {α : Type} (K : Dev nD × Fin 64 → ℕ) (c : Dev nD) (v624 : BitVec 32) (v625 : BitVec 32) (c0_i32_643 : BitVec 32)
    {k : (BitVec 32) → Prog (TpuEff nD τ sig (Elt F) Λ₀ .tc) α} {Q : α → sProp 𝕄} :
    iprop(Env m K ∗ Owe (F := F) c 5 16 0 ∗ Todo (F := F) c 16 ∗ sendHas 16 (sentAt m 16 c) c ∗ sendHas 17 (sentAt m 17 c) c ∗ owns (c : Thread nD τ) woM fullShare (woutAt m 1 c) ∗ Idle m cpoD woutM 2 c)
      ⊢ iprop((∀ c1_i32_672 : BitVec 32, (Owe (F := F) c 5 18 0 ∗ Todo (F := F) c 18 ∗ sendAny (F := F) 18 c ∗ Away (F := F) 16 c ∗ Flight (F := F) 17 c ∗ Busy m cpoD woutM woM 2 c) -∗ wpc c (k c1_i32_672) Q)
        -∗ wpc c (onBuffers (k0_part24 (F := F)) c v624 v625 c0_i32_643 >>= k) Q) := by
  unfold onBuffers
  rw [k0_part24_eq_skeleton]; unfold k0_part24_skel
  simp only [semSignalWord, semWaitWord, Prog.lift, Prog.bind_op, Prog.bind_ret, Prog.pure_eq_ret, Prog.bind_assoc, wp_deviceId]
  iintro ⟨#Henv, HO, HT, HSA, HSB, Hwo, HCO⟩ Hk
  iapply (wp_send_exchange m K c 16 (by decide) 0 (dev22 c) rfl rfl rfl rfl) $$ [HO HT HSA]
  · isplitr; · iexact Henv
    isplitl [HO]; · iexact HO
    isplitl [HT]; · iexact HT
    iexact HSA
  iintro ⟨HO, HT, HXA⟩
  iapply (wp_send_exchange m K c 17 (by decide) 0 (dev23 c) rfl rfl rfl rfl) $$ [HO HT HSB]
  · isplitr; · iexact Henv
    isplitl [HO]; · iexact HO
    isplitl [HT]; · iexact HT
    iexact HSB
  iintro ⟨HO, HT, HXB⟩
  ihave Hwo := (owns_any c woM _) $$ Hwo
  iapply (wp_copy_start m (q := cpoD) (src := woutM) (dst := woM) K c 2 (by decide) (by decide) (fun _ h => duties_cpo m c h) (fun r => amount_cpo m c r 0) (fun r => payload_cpo m c r 0) rfl rfl) $$ [HCO Hwo]
  · isplitr; · iexact Henv
    isplitl [HCO]; · iexact HCO
    iexact Hwo
  iintro HCO
  iapply (wp_wait_snd m K c 16 (by decide) 18 rfl rfl) $$ [HO HXA]
  · isplitr; · iexact Henv
    isplitl [HO]; · iexact HO
    iexact HXA
  iintro ⟨HO, HXA, HSA⟩
  iapply Hk
  isplitl [HO]; · iexact HO
  isplitl [HT]; · iexact HT
  isplitl [HSA]; · iexact HSA
  isplitl [HXA]; · iexact HXA
  isplitl [HXB]; · iexact HXB
  iexact HCO

theorem part25 {α : Type} (K : Dev nD × Fin 64 → ℕ) (c : Dev nD) (v623 : BitVec 32) (v624 : BitVec 32) (c1_i32_672 : BitVec 32)
    {k : (Σ' (v664 : FVec F S64x1024 .f32), Vec F S1x64x1024 .bf16) → Prog (TpuEff nD τ sig (Elt F) Λ₀ .tc) α} {Q : α → sProp 𝕄} :
    iprop(Env m K ∗ Owe (F := F) c 5 18 0 ∗ Away (F := F) 16 c ∗ Done (F := F) c 16 ∗ Flight (F := F) 17 c)
      ⊢ iprop(((Owe (F := F) c 5 18 0 ∗ Done (F := F) c 18 ∗ sendAny (F := F) 19 c) -∗ wpc c (k ⟨accAt m 0 1 4 c, sentAt m 17 (pa 17 c)⟩) Q)
        -∗ wpc c (onBuffers (k0_part25 (F := F)) (accAt m 0 1 3 c) v623 v624 c1_i32_672 >>= k) Q) := by
  unfold onBuffers
  rw [k0_part25_eq_skeleton]; unfold k0_part25_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_rcv m K c 16 (by decide) 18 (by decide) rfl rfl) $$ [HO HXA]
  · isplitr; · iexact Henv
    isplitl [HO]; · iexact HO
    iexact HXA
  iintro ⟨HO, HXA⟩
  iapply (wp_load_slot m c 16) $$ [HD HXA]
  · isplitl [HD]; · iexact HD
    iexact HXA
  iintro HD
  iapply (wp_wait_snd m K c 17 (by decide) 18 rfl rfl) $$ [HO HXB]
  · isplitr; · iexact Henv
    isplitl [HO]; · iexact HO
    iexact HXB
  iintro ⟨HO, HXB, HSB⟩
  iapply (wp_wait_rcv m K c 17 (by decide) 18 (by decide) rfl rfl) $$ [HO HXB]
  · isplitr; · iexact Henv
    isplitl [HO]; · iexact HO
    iexact HXB
  iintro ⟨HO, HXB⟩
  iapply (wp_load_slot m c 17) $$ [HD HXB]
  · isplitl [HD]; · iexact HD
    iexact HXB
  iintro HD
  have e1 : k0_pay46 (accAt m 0 1 3 c) (sentAt m 16 (pa 16 c)) = accAt m 0 1 4 c := by
    show joined (accAt m 0 1 3 c) (sentAt m 16 (pa 16 c)) = _
    rw [join_eq m c (i := 16) (h := 0) (l := 1) (s := 3) (t := 4) (by decide)]; try rfl
  rw [e1]
  iapply Hk
  isplitl [HO]; · iexact HO
  isplitl [HD]; · iexact HD
  iexact HSB

theorem part26 {α : Type} (K : Dev nD × Fin 64 → ℕ) (c : Dev nD) (v2 : BitVec 32)
    {k : (Σ' (v682 : FVec F S64x1024 .f32) (v691 : BitVec 32), BitVec 32) → Prog (TpuEff nD τ sig (Elt F) Λ₀ .tc) α} {Q : α → sProp 𝕄} :
    iprop(Env m K ∗ sendAny (F := F) 18 c ∗ sendAny (F := F) 19 c ∗ Owe (F := F) c 5 18 0 ∗ Todo (F := F) c 18)
      ⊢ iprop((∀ v691 : BitVec 32, ∀ v692 : BitVec 32, (sendHas 19 (sentAt m 19 c) c ∗ Owe (F := F) c 5 19 0 ∗ Todo (F := F) c 19 ∗ Flight (F := F) 18 c) -∗ wpc c (k ⟨accAt m 1 1 4 c, v691, v692⟩) Q)
        -∗ wpc c (onBuffers (k0_part26 (F := F)) c v2 (accAt m 1 1 3 c) (accAt m 0 1 4 c) (sentAt m 17 (pa 17 c)) >>= k) Q) := by
  unfold onBuffers
  rw [k0_part26_eq_skeleton]; unfold k0_part26_skel
  simp only [semSignalWord, semWaitWord, Prog.lift, Prog.bind_op, Prog.bind_ret, Prog.pure_eq_ret, Prog.bind_assoc, wp_deviceId]
  iintro ⟨#Henv, HSA, HSB, HO, HT⟩ Hk
  iapply (wp_load_send c 18) $$ HSA
  iintro %v684 HSA
  have e1 : k0_pay48 (accAt m 0 1 4 c) = sentAt m 18 c := rfl
  iapply (wp_store_send m c 18 e1) $$ HSA
  iintro HSA
  iapply (wp_load_send c 19) $$ HSB
  iintro %v688 HSB
  have e2 : k0_pay49 (accAt m 1 1 3 c) (sentAt m 17 (pa 17 c)) = sentAt m 19 c := by
    show sent (joined (accAt m 1 1 3 c) (sentAt m 17 (pa 17 c))) = _
    rw [join_eq m c (i := 17) (h := 1) (l := 1) (s := 3) (t := 4) (by decide)]; try rfl
  iapply (wp_store_send m c 19 e2) $$ HSB
  iintro HSB
  iapply (wp_send_exchange m K c 18 (by decide) 0 (dev24 c) rfl rfl rfl rfl) $$ [HO HT HSA]
  · isplitr; · iexact Henv
    isplitl [HO]; · iexact HO
    isplitl [HT]; · iexact HT
    iexact HSA
  iintro ⟨HO, HT, HXA⟩
  have e3 : k0_pay47 (accAt m 1 1 3 c) (sentAt m 17 (pa 17 c)) = accAt m 1 1 4 c := by
    show joined (accAt m 1 1 3 c) (sentAt m 17 (pa 17 c)) = _
    rw [join_eq m c (i := 17) (h := 1) (l := 1) (s := 3) (t := 4) (by decide)]; try rfl
  rw [e3]
  iapply Hk
  isplitl [HSB]; · iexact HSB
  isplitl [HO]; · iexact HO
  isplitl [HT]; · iexact HT
  iexact HXA

theorem part27 {α : Type} (K : Dev nD × Fin 64 → ℕ) (c : Dev nD) (v691 : BitVec 32)
    {k : (FVec F S64x1024 .f32) → Prog (TpuEff nD τ sig (Elt F) Λ₀ .tc) α} {Q : α → sProp 𝕄} :
    iprop(Env m K ∗ Owe (F := F) c 5 19 0 ∗ Todo (F := F) c 19 ∗ sendHas 19 (sentAt m 19 c) c ∗ Flight (F := F) 18 c ∗ Done (F := F) c 18 ∗ owns (c : Thread nD τ) wobM fullShare (woutB m 1 c))
      ⊢ iprop(((Owe (F := F) c 5 20 0 ∗ Todo (F := F) c 20 ∗ Flight (F := F) 19 c ∗ sendAny (F := F) 20 c ∗ Done (F := F) c 19 ∗ owns (c : Thread nD τ) wobM fullShare (woutB m 1 c)) -∗ wpc c (k (outA m 1 c)) Q)
        -∗ wpc c (onBuffers (k0_part27 (F := F)) c (accAt m 0 1 4 c) v691 >>= k) Q) := by
  unfold onBuffers
  rw [k0_part27_eq_skeleton]; unfold k0_part27_skel
  simp only [semSignalWord, semWaitWord, Prog.lift, Prog.bind_op, Prog.bind_ret, Prog.pure_eq_ret, Prog.bind_assoc, wp_deviceId]
  iintro ⟨#Henv, HO, HT, HSB, HXA, HD, Hwob⟩ Hk
  iapply (wp_send_exchange m K c 19 (by decide) 0 (dev25 c) rfl rfl rfl rfl) $$ [HO HT HSB]
  · isplitr; · iexact Henv
    isplitl [HO]; · iexact HO
    isplitl [HT]; · iexact HT
    iexact HSB
  iintro ⟨HO, HT, HXB⟩
  iapply (wp_wait_snd m K c 18 (by decide) 20 rfl rfl) $$ [HO HXA]
  · isplitr; · iexact Henv
    isplitl [HO]; · iexact HO
    iexact HXA
  iintro ⟨HO, HXA, HSA⟩
  iapply (wp_wait_rcv m K c 18 (by decide) 20 (by decide) rfl rfl) $$ [HO HXA]
  · isplitr; · iexact Henv
    isplitl [HO]; · iexact HO
    iexact HXA
  iintro ⟨HO, HXA⟩
  iapply (wp_load_slot m c 18) $$ [HD HXA]
  · isplitl [HD]; · iexact HD
    iexact HXA
  iintro HD
  iapply (wp_load_rows c 0) $$ Hwob
  iintro Hwob
  have e1 : k0_pay50 (accAt m 0 1 4 c) (sentAt m 18 (pa 18 c)) (rows 0 (woutB m 1 c)) = outA m 1 c := by
    show mm (actv (joined (accAt m 0 1 4 c) (sentAt m 18 (pa 18 c)))) (rows 0 (woutB m 1 c)) = _
    rw [join_eq m c (i := 18) (h := 0) (l := 1) (s := 4) (t := 5) (by decide)]; try rfl
  rw [e1]
  iapply Hk
  isplitl [HO]; · iexact HO
  isplitl [HT]; · iexact HT
  isplitl [HXB]; · iexact HXB
  isplitl [HSA]; · iexact HSA
  isplitl [HD]; · iexact HD
  iexact Hwob

end Cert.Mlp

end
-- ==== Proof.Layer2.lean ====
/-
The third layer of the body, part by part as printed: what a part finds in the buffers it touches, what it leaves there,
and the blocks it hands to the parts after it. A word that a part returns is never read again, so nothing is said of it.
-/
module

public import proofs.«01_k».proof.Proof.Ops

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem part28 {α : Type} (K : Dev nD × Fin 64 → ℕ) (c : Dev nD) (v692 : BitVec 32)
    {k : (Σ' (v760 : FVec F S64x1024 .bf16) (v762 : FVec F S64x1024 .f32), FVec F S64x1024 .bf16) → Prog (TpuEff nD τ sig (Elt F) Λ₀ .tc) α} {Q : α → sProp 𝕄} :
    iprop(Env m K ∗ Owe (F := F) c 5 20 0 ∗ Flight (F := F) 19 c ∗ Done (F := F) c 19 ∗ owns (c : Thread nD τ) wobM fullShare (woutB m 1 c) ∗ owns (c : Thread nD τ) wibM fullShare (winB m 2 c) ∗ sendAny (F := F) 20 c)
      ⊢ iprop(((Owe (F := F) c 5 20 0 ∗ sendAny (F := F) 21 c ∗ Done (F := F) c 20 ∗ owns (c : Thread nD τ) wobM fullShare (woutB m 1 c) ∗ owns (c : Thread nD τ) wibM fullShare (winB m 2 c) ∗ sendAny (F := F) 20 c) -∗ wpc c (k ⟨xin m 2 c, accAt m 0 2 0 c, truncf .bf16 (accAt m 0 2 0 c) bitsLt_bf16_f32⟩) Q)
        -∗ wpc c (onBuffers (k0_part28 (F := F)) (accAt m 1 1 4 c) v692 (outA m 1 c) >>= k) Q) := by
  unfold onBuffers
  rw [k0_part28_eq_skeleton]; unfold k0_part28_skel
  simp only [semSignalWord, semWaitWord, Prog.lift, Prog.bind_op, Prog.bind_ret, Prog.pure_eq_ret, Prog.bind_assoc, wp_deviceId]
  iintro ⟨#Henv, HO, HXB, HD, Hwob, Hwib, HSA⟩ Hk
  iapply (wp_wait_snd m K c 19 (by decide) 20 rfl rfl) $$ [HO HXB]
  · isplitr; · iexact Henv
    isplitl [HO]; · iexact HO
    iexact HXB
  iintro ⟨HO, HXB, HSB⟩
  iapply (wp_wait_rcv m K c 19 (by decide) 20 (by decide) rfl rfl) $$ [HO HXB]
  · isplitr; · iexact Henv
    isplitl [HO]; · iexact HO
    iexact HXB
  iintro ⟨HO, HXB⟩
  iapply (wp_load_slot m c 19) $$ [HD HXB]
  · isplitl [HD]; · iexact HD
    iexact HXB
  iintro HD
  iapply (wp_load_rows c 1) $$ Hwob
  iintro Hwob
  iapply (wp_load_cols c 0) $$ Hwib
  iintro Hwib
  iapply (wp_load_send c 20) $$ HSA
  iintro %v764 HSA
  have e1 : k0_pay51 (accAt m 1 1 4 c) (outA m 1 c) (sentAt m 19 (pa 19 c)) (rows 1 (woutB m 1 c)) = xin m 2 c := by
    show truncf .bf16 (addf (outA m 1 c) (mm (actv (joined (accAt m 1 1 4 c) (sentAt m 19 (pa 19 c)))) (rows 1 (woutB m 1 c)))) bitsLt_bf16_f32 = _
    rw [join_eq m c (i := 19) (h := 1) (l := 1) (s := 4) (t := 5) (by decide)]; try rfl
  have e2 : k0_pay52 (accAt m 1 1 4 c) (outA m 1 c) (sentAt m 19 (pa 19 c)) (rows 1 (woutB m 1 c)) (cols 0 (winB m 2 c)) = accAt m 0 2 0 c := by
    show mm (truncf .bf16 (addf (outA m 1 c) (mm (actv (joined (accAt m 1 1 4 c) (sentAt m 19 (pa 19 c)))) (rows 1 (woutB m 1 c)))) bitsLt_bf16_f32) (cols 0 (winB m 2 c)) = _
    rw [join_eq m c (i := 19) (h := 1) (l := 1) (s := 4) (t := 5) (by decide)]; try rfl
  have e3 : k0_pay53 (accAt m 1 1 4 c) (outA m 1 c) (sentAt m 19 (pa 19 c)) (rows 1 (woutB m 1 c)) (cols 0 (winB m 2 c)) = truncf .bf16 (accAt m 0 2 0 c) bitsLt_bf16_f32 := by
    show truncf .bf16 (mm (truncf .bf16 (addf (outA m 1 c) (mm (actv (joined (accAt m 1 1 4 c) (sentAt m 19 (pa 19 c)))) (rows 1 (woutB m 1 c)))) bitsLt_bf16_f32) (cols 0 (winB m 2 c))) bitsLt_bf16_f32 = _
    rw [join_eq m c (i := 19) (h := 1) (l := 1) (s := 4) (t := 5) (by decide)]; try rfl
  rw [e1, e2, e3]
  iapply Hk
  isplitl [HO]; · iexact HO
  isplitl [HSB]; · iexact HSB
  isplitl [HD]; · iexact HD
  isplitl [Hwob]; · iexact Hwob
  isplitl [Hwib]; · iexact Hwib
  iexact HSA

theorem part29 {α : Type} (K : Dev nD × Fin 64 → ℕ) (c : Dev nD) (v2 : BitVec 32)
    {k : (Σ' (v767 : BitVec 32) (v768 : BitVec 32), FVec F S64x1024 .f32) → Prog (TpuEff nD τ sig (Elt F) Λ₀ .tc) α} {Q : α → sProp 𝕄} :
    iprop(Env m K ∗ sendAny (F := F) 20 c ∗ Owe (F := F) c 5 20 0 ∗ Todo (F := F) c 20 ∗ owns (c : Thread nD τ) wibM fullShare (winB m 2 c) ∗ sendAny (F := F) 21 c)
      ⊢ iprop((∀ v767 : BitVec 32, ∀ v768 : BitVec 32, (Owe (F := F) c 5 21 0 ∗ Todo (F := F) c 21 ∗ Flight (F := F) 20 c ∗ owns (c : Thread nD τ) wibM fullShare (winB m 2 c) ∗ sendHas 21 (sentAt m 21 c) c) -∗ wpc c (k ⟨v767, v768, accAt m 1 2 0 c⟩) Q)
        -∗ wpc c (onBuffers (k0_part29 (F := F)) c v2 (xin m 2 c) (truncf .bf16 (accAt m 0 2 0 c) bitsLt_bf16_f32) >>= k) Q) := by
  unfold onBuffers
  rw [k0_part29_eq_skeleton]; unfold k0_part29_skel
  simp only [semSignalWord, semWaitWord, Prog.lift, Prog.bind_op, Prog.bind_ret, Prog.pure_eq_ret, Prog.bind_assoc, wp_deviceId]
  iintro ⟨#Henv, HSA, HO, HT, Hwib, HSB⟩ Hk
  have e1 : k0_pay54 (truncf .bf16 (accAt m 0 2 0 c) bitsLt_bf16_f32) = sentAt m 20 c := rfl
  iapply (wp_store_send m c 20 e1) $$ HSA
  iintro HSA
  iapply (wp_send_exchange m K c 20 (by decide) 0 (dev26 c) rfl rfl rfl rfl) $$ [HO HT HSA]
  · isplitr; · iexact Henv
    isplitl [HO]; · iexact HO
    isplitl [HT]; · iexact HT
    iexact HSA
  iintro ⟨HO, HT, HXA⟩
  iapply (wp_load_cols c 1) $$ Hwib
  iintro Hwib
  iapply (wp_load_send c 21) $$ HSB
  iintro %v782 HSB
  have e2 : k0_pay56 (xin m 2 c) (cols 1 (winB m 2 c)) = sentAt m 21 c := rfl
  iapply (wp_store_send m c 21 e2) $$ HSB
  iintro HSB
  have e3 : k0_pay55 (xin m 2 c) (cols 1 (winB m 2 c)) = accAt m 1 2 0 c := rfl
  rw [e3]
  iapply Hk
  isplitl [HO]; · iexact HO
  isplitl [HT]; · iexact HT
  isplitl [HXA]; · iexact HXA
  isplitl [Hwib]; · iexact Hwib
  iexact HSB

theorem part30 {α : Type} (K : Dev nD × Fin 64 → ℕ) (c : Dev nD) (v767 : BitVec 32)
    {k : (FVec F S64x1024 .f32) → Prog (TpuEff nD τ sig (Elt F) Λ₀ .tc) α} {Q : α → sProp 𝕄} :
    iprop(Env m K ∗ Owe (F := F) c 5 21 0 ∗ Todo (F := F) c 21 ∗ sendHas 21 (sentAt m 21 c) c ∗ Busy m cpoD woutM woM 2 c ∗ owns (c : Thread nD τ) wobM fullShare (woutB m 1 c) ∗ Flight (F := F) 20 c ∗ Done (F := F) c 20)
      ⊢ iprop(((Owe (F := F) c 5 22 0 ∗ Todo (F := F) c 22 ∗ Flight (F := F) 21 c ∗ Idle m cpoD woutM 3 c ∗ owns (c : Thread nD τ) woM fullShare (woutAt m 2 c) ∗ owns (c : Thread nD τ) wobM fullShare (woutB m 2 c) ∗ sendAny (F := F) 22 c ∗ Done (F := F) c 21) -∗ wpc c (k (accAt m 0 2 1 c)) Q)
        -∗ wpc c (onBuffers (k0_part30 (F := F)) c (accAt m 0 2 0 c) v767 >>= k) Q) := by
  unfold onBuffers
  rw [k0_part30_eq_skeleton]; unfold k0_part30_skel
  simp only [semSignalWord, semWaitWord, Prog.lift, Prog.bind_op, Prog.bind_ret, Prog.pure_eq_ret, Prog.bind_assoc, wp_deviceId]
  iintro ⟨#Henv, HO, HT, HSB, HCO, Hwob, HXA, HD⟩ Hk
  iapply (wp_send_exchange m K c 21 (by decide) 0 (dev27 c) rfl rfl rfl rfl) $$ [HO HT HSB]
  · isplitr; · iexact Henv
    isplitl [HO]; · iexact HO
    isplitl [HT]; · iexact HT
    iexact HSB
  iintro ⟨HO, HT, HXB⟩
  iapply (wp_copy_wait m (q := cpoD) (src := woutM) (dst := woM) K c 2 (by decide) (by decide) (by decide) 5 22 0 (fun _ h => expect_cpo m c h) (fun _ h => rest_cpo m c h) rfl) $$ [HO HCO]
  · isplitr; · iexact Henv
    isplitl [HO]; · iexact HO
    iexact HCO
  rw [srcAt_wout]
  iintro ⟨HO, HCO, Hwo⟩
  iapply (wp_load_all c 3 rfl (X := woutAt m 2 c) off_zero) $$ Hwo
  iintro Hwo
  ihave Hwob := (owns_any c wobM _) $$ Hwob
  iapply (wp_load_dead c wobM _) $$ Hwob
  iintro %v799 Hwob
  have e1 : k0_pay57 (woutAt m 2 c) = woutB m 2 c := rfl
  iapply (wp_store_all c 5 rfl off_zero e1) $$ Hwob
  iintro Hwob
  iapply (wp_wait_snd m K c 20 (by decide) 22 rfl rfl) $$ [HO HXA]
  · isplitr; · iexact Henv
    isplitl [HO]; · iexact HO
    iexact HXA
  iintro ⟨HO, HXA, HSA⟩
  iapply (wp_wait_rcv m K c 20 (by decide) 22 (by decide) rfl rfl) $$ [HO HXA]
  · isplitr; · iexact Henv
    isplitl [HO]; · iexact HO
    iexact HXA
  iintro ⟨HO, HXA⟩
  iapply (wp_load_slot m c 20) $$ [HD HXA]
  · isplitl [HD]; · iexact HD
    iexact HXA
  iintro HD
  have e2 : k0_pay58 (accAt m 0 2 0 c) (sentAt m 20 (pa 20 c)) = accAt m 0 2 1 c := by
    show joined (accAt m 0 2 0 c) (sentAt m 20 (pa 20 c)) = _
    rw [join_eq m c (i := 20) (h := 0) (l := 2) (s := 0) (t := 1) (by decide)]; try rfl
  rw [e2]
  iapply Hk
  isplitl [HO]; · iexact HO
  isplitl [HT]; · iexact HT
  isplitl [HXB]; · iexact HXB
  isplitl [HCO]; · iexact HCO
  isplitl [Hwo]; · iexact Hwo
  isplitl [Hwob]; · iexact Hwob
  isplitl [HSA]; · iexact HSA
  iexact HD

theorem part31 {α : Type} (K : Dev nD × Fin 64 → ℕ) (c : Dev nD) (v2 : BitVec 32) (v768 : BitVec 32)
    {k : (Σ' (v837 : FVec F S64x1024 .f32) (v846 : BitVec 32), BitVec 32) → Prog (TpuEff nD τ sig (Elt F) Λ₀ .tc) α} {Q : α → sProp 𝕄} :
    iprop(Env m K ∗ Owe (F := F) c 5 22 0 ∗ Flight (F := F) 21 c ∗ Done (F := F) c 21 ∗ sendAny (F := F) 22 c)
      ⊢ iprop((∀ v846 : BitVec 32, ∀ v847 : BitVec 32, (Owe (F := F) c 5 22 0 ∗ sendHas 23 (sentAt m 23 c) c ∗ Done (F := F) c 22 ∗ sendHas 22 (sentAt m 22 c) c) -∗ wpc c (k ⟨accAt m 1 2 1 c, v846, v847⟩) Q)
        -∗ wpc c (onBuffers (k0_part31 (F := F)) v2 v768 (accAt m 1 2 0 c) (accAt m 0 2 1 c) >>= k) Q) := by
  unfold onBuffers
  rw [k0_part31_eq_skeleton]; unfold k0_part31_skel
  simp only [semSignalWord, semWaitWord, Prog.lift, Prog.bind_op, Prog.bind_ret, Prog.pure_eq_ret, Prog.bind_assoc, wp_deviceId]
  iintro ⟨#Henv, HO, HXB, HD, HSA⟩ Hk
  iapply (wp_wait_snd m K c 21 (by decide) 22 rfl rfl) $$ [HO HXB]
  · isplitr; · iexact Henv
    isplitl [HO]; · iexact HO
    iexact HXB
  iintro ⟨HO, HXB, HSB⟩
  iapply (wp_wait_rcv m K c 21 (by decide) 22 (by decide) rfl rfl) $$ [HO HXB]
  · isplitr; · iexact Henv
    isplitl [HO]; · iexact HO
    iexact HXB
  iintro ⟨HO, HXB⟩
  iapply (wp_load_slot m c 21) $$ [HD HXB]
  · isplitl [HD]; · iexact HD
    iexact HXB
  iintro HD
  iapply (wp_load_send c 22) $$ HSA
  iintro %v839 HSA
  have e1 : k0_pay60 (accAt m 0 2 1 c) = sentAt m 22 c := rfl
  iapply (wp_store_send m c 22 e1) $$ HSA
  iintro HSA
  iapply (wp_load_send c 23) $$ HSB
  iintro %v843 HSB
  have e2 : k0_pay61 (accAt m 1 2 0 c) (sentAt m 21 (pa 21 c)) = sentAt m 23 c := by
    show sent (joined (accAt m 1 2 0 c) (sentAt m 21 (pa 21 c))) = _
    rw [join_eq m c (i := 21) (h := 1) (l := 2) (s := 0) (t := 1) (by decide)]; try rfl
  iapply (wp_store_send m c 23 e2) $$ HSB
  iintro HSB
  have e3 : k0_pay59 (accAt m 1 2 0 c) (sentAt m 21 (pa 21 c)) = accAt m 1 2 1 c := by
    show joined (accAt m 1 2 0 c) (sentAt m 21 (pa 21 c)) = _
    rw [join_eq m c (i := 21) (h := 1) (l := 2) (s := 0) (t := 1) (by decide)]; try rfl
  rw [e3]
  iapply Hk
  isplitl [HO]; · iexact HO
  isplitl [HSB]; · iexact HSB
  isplitl [HD]; · iexact HD
  iexact HSA

theorem part32 {α : Type} (K : Dev nD × Fin 64 → ℕ) (c : Dev nD) (v846 : BitVec 32) (v847 : BitVec 32)
    {k : (PUnit) → Prog (TpuEff nD τ sig (Elt F) Λ₀ .tc) α} {Q : α → sProp 𝕄} :
    iprop(Env m K ∗ Owe (F := F) c 5 22 0 ∗ Todo (F := F) c 22 ∗ sendHas 22 (sentAt m 22 c) c ∗ sendHas 23 (sentAt m 23 c) c)
      ⊢ iprop(((Owe (F := F) c 5 24 0 ∗ Todo (F := F) c 24 ∗ sendAny (F := F) 24 c ∗ Away (F := F) 22 c ∗ Flight (F := F) 23 c) -∗ wpc c (k ⟨⟩) Q)
        -∗ wpc c (onBuffers (k0_part32 (F := F)) c v846 v847 >>= k) Q) := by
  unfold onBuffers
  rw [k0_part32_eq_skeleton]; unfold k0_part32_skel
  simp only [semSignalWord, semWaitWord, Prog.lift, Prog.bind_op, Prog.bind_ret, Prog.pure_eq_ret, Prog.bind_assoc, wp_deviceId]
  iintro ⟨#Henv, HO, HT, HSA, HSB⟩ Hk
  iapply (wp_send_exchange m K c 22 (by decide) 0 (dev28 c) rfl rfl rfl rfl) $$ [HO HT HSA]
  · isplitr; · iexact Henv
    isplitl [HO]; · iexact HO
    isplitl [HT]; · iexact HT
    iexact HSA
  iintro ⟨HO, HT, HXA⟩
  iapply (wp_send_exchange m K c 23 (by decide) 0 (dev29 c) rfl rfl rfl rfl) $$ [HO HT HSB]
  · isplitr; · iexact Henv
    isplitl [HO]; · iexact HO
    isplitl [HT]; · iexact HT
    iexact HSB
  iintro ⟨HO, HT, HXB⟩
  iapply (wp_wait_snd m K c 22 (by decide) 24 rfl rfl) $$ [HO HXA]
  · isplitr; · iexact Henv
    isplitl [HO]; · iexact HO
    iexact HXA
  iintro ⟨HO, HXA, HSA⟩
  iapply Hk
  isplitl [HO]; · iexact HO
  isplitl [HT]; · iexact HT
  isplitl [HSA]; · iexact HSA
  isplitl [HXA]; · iexact HXA
  iexact HXB

theorem part33 {α : Type} (K : Dev nD × Fin 64 → ℕ) (c : Dev nD) (v846 : BitVec 32) (v847 : BitVec 32)
    {k : (FVec F S64x1024 .f32) → Prog (TpuEff nD τ sig (Elt F) Λ₀ .tc) α} {Q : α → sProp 𝕄} :
    iprop(Env m K ∗ Owe (F := F) c 5 24 0 ∗ Away (F := F) 22 c ∗ Done (F := F) c 22 ∗ Flight (F := F) 23 c)
      ⊢ iprop(((Owe (F := F) c 5 24 0 ∗ Done (F := F) c 23 ∗ Got m 23 c ∗ sendAny (F := F) 25 c) -∗ wpc c (k (accAt m 0 2 2 c)) Q)
        -∗ wpc c (onBuffers (k0_part33 (F := F)) (accAt m 0 2 1 c) v846 v847 >>= k) Q) := by
  unfold onBuffers
  rw [k0_part33_eq_skeleton]; unfold k0_part33_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_rcv m K c 22 (by decide) 24 (by decide) rfl rfl) $$ [HO HXA]
  · isplitr; · iexact Henv
    isplitl [HO]; · iexact HO
    iexact HXA
  iintro ⟨HO, HXA⟩
  iapply (wp_load_slot m c 22) $$ [HD HXA]
  · isplitl [HD]; · iexact HD
    iexact HXA
  iintro HD
  iapply (wp_wait_snd m K c 23 (by decide) 24 rfl rfl) $$ [HO HXB]
  · isplitr; · iexact Henv
    isplitl [HO]; · iexact HO
    iexact HXB
  iintro ⟨HO, HXB, HSB⟩
  iapply (wp_wait_rcv m K c 23 (by decide) 24 (by decide) rfl rfl) $$ [HO HXB]
  · isplitr; · iexact Henv
    isplitl [HO]; · iexact HO
    iexact HXB
  iintro ⟨HO, HXB⟩
  have e1 : k0_pay62 (accAt m 0 2 1 c) (sentAt m 22 (pa 22 c)) = accAt m 0 2 2 c := by
    show joined (accAt m 0 2 1 c) (sentAt m 22 (pa 22 c)) = _
    rw [join_eq m c (i := 22) (h := 0) (l := 2) (s := 1) (t := 2) (by decide)]; try rfl
  rw [e1]
  iapply Hk
  isplitl [HO]; · iexact HO
  isplitl [HD]; · iexact HD
  isplitl [HXB]; · iexact HXB
  iexact HSB

theorem part34 {α : Type} (K : Dev nD × Fin 64 → ℕ) (c : Dev nD) (v2 : BitVec 32)
    {k : (Σ' (v903 : FVec F S64x1024 .f32) (v912 : BitVec 32), BitVec 32) → Prog (TpuEff nD τ sig (Elt F) Λ₀ .tc) α} {Q : α → sProp 𝕄} :
    iprop(Env m K ∗ Done (F := F) c 23 ∗ Got m 23 c ∗ sendAny (F := F) 24 c ∗ sendAny (F := F) 25 c ∗ Owe (F := F) c 5 24 0 ∗ Todo (F := F) c 24)
      ⊢ iprop((∀ v912 : BitVec 32, ∀ v913 : BitVec 32, (Done (F := F) c 24 ∗ sendHas 25 (sentAt m 25 c) c ∗ Owe (F := F) c 5 25 0 ∗ Todo (F := F) c 25 ∗ Flight (F := F) 24 c) -∗ wpc c (k ⟨accAt m 1 2 2 c, v912, v913⟩) Q)
        -∗ wpc c (onBuffers (k0_part34 (F := F)) c v2 (accAt m 1 2 1 c) (accAt m 0 2 2 c) >>= k) Q) := by
  unfold onBuffers
  rw [k0_part34_eq_skeleton]; unfold k0_part34_skel
  simp only [semSignalWord, semWaitWord, Prog.lift, Prog.bind_op, Prog.bind_ret, Prog.pure_eq_ret, Prog.bind_assoc, wp_deviceId]
  iintro ⟨#Henv, HD, HXB, HSA, HSB, HO, HT⟩ Hk
  iapply (wp_load_slot m c 23) $$ [HD HXB]
  · isplitl [HD]; · iexact HD
    iexact HXB
  iintro HD
  iapply (wp_load_send c 24) $$ HSA
  iintro %v905 HSA
  have e1 : k0_pay64 (accAt m 0 2 2 c) = sentAt m 24 c := rfl
  iapply (wp_store_send m c 24 e1) $$ HSA
  iintro HSA
  iapply (wp_load_send c 25) $$ HSB
  iintro %v909 HSB
  have e2 : k0_pay65 (accAt m 1 2 1 c) (sentAt m 23 (pa 23 c)) = sentAt m 25 c := by
    show sent (joined (accAt m 1 2 1 c) (sentAt m 23 (pa 23 c))) = _
    rw [join_eq m c (i := 23) (h := 1) (l := 2) (s := 1) (t := 2) (by decide)]; try rfl
  iapply (wp_store_send m c 25 e2) $$ HSB
  iintro HSB
  iapply (wp_send_exchange m K c 24 (by decide) 0 (dev30 c) rfl rfl rfl rfl) $$ [HO HT HSA]
  · isplitr; · iexact Henv
    isplitl [HO]; · iexact HO
    isplitl [HT]; · iexact HT
    iexact HSA
  iintro ⟨HO, HT, HXA⟩
  have e3 : k0_pay63 (accAt m 1 2 1 c) (sentAt m 23 (pa 23 c)) = accAt m 1 2 2 c := by
    show joined (accAt m 1 2 1 c) (sentAt m 23 (pa 23 c)) = _
    rw [join_eq m c (i := 23) (h := 1) (l := 2) (s := 1) (t := 2) (by decide)]; try rfl
  rw [e3]
  iapply Hk
  isplitl [HD]; · iexact HD
  isplitl [HSB]; · iexact HSB
  isplitl [HO]; · iexact HO
  isplitl [HT]; · iexact HT
  iexact HXA

theorem part35 {α : Type} (K : Dev nD × Fin 64 → ℕ) (c : Dev nD) (v912 : BitVec 32)
    {k : (FVec F S64x1024 .f32) → Prog (TpuEff nD τ sig (Elt F) Λ₀ .tc) α} {Q : α → sProp 𝕄} :
    iprop(Env m K ∗ Owe (F := F) c 5 25 0 ∗ Todo (F := F) c 25 ∗ sendHas 25 (sentAt m 25 c) c ∗ Flight (F := F) 24 c ∗ Done (F := F) c 24)
      ⊢ iprop(((Owe (F := F) c 5 26 0 ∗ Todo (F := F) c 26 ∗ Flight (F := F) 25 c ∗ sendAny (F := F) 26 c ∗ Done (F := F) c 25) -∗ wpc c (k (accAt m 0 2 3 c)) Q)
        -∗ wpc c (onBuffers (k0_part35 (F := F)) c (accAt m 0 2 2 c) v912 >>= k) Q) := by
  unfold onBuffers
  rw [k0_part35_eq_skeleton]; unfold k0_part35_skel
  simp only [semSignalWord, semWaitWord, Prog.lift, Prog.bind_op, Prog.bind_ret, Prog.pure_eq_ret, Prog.bind_assoc, wp_deviceId]
  iintro ⟨#Henv, HO, HT, HSB, HXA, HD⟩ Hk
  iapply (wp_send_exchange m K c 25 (by decide) 0 (dev31 c) rfl rfl rfl rfl) $$ [HO HT HSB]
  · isplitr; · iexact Henv
    isplitl [HO]; · iexact HO
    isplitl [HT]; · iexact HT
    iexact HSB
  iintro ⟨HO, HT, HXB⟩
  iapply (wp_wait_snd m K c 24 (by decide) 26 rfl rfl) $$ [HO HXA]
  · isplitr; · iexact Henv
    isplitl [HO]; · iexact HO
    iexact HXA
  iintro ⟨HO, HXA, HSA⟩
  iapply (wp_wait_rcv m K c 24 (by decide) 26 (by decide) rfl rfl) $$ [HO HXA]
  · isplitr; · iexact Henv
    isplitl [HO]; · iexact HO
    iexact HXA
  iintro ⟨HO, HXA⟩
  iapply (wp_load_slot m c 24) $$ [HD HXA]
  · isplitl [HD]; · iexact HD
    iexact HXA
  iintro HD
  have e1 : k0_pay66 (accAt m 0 2 2 c) (sentAt m 24 (pa 24 c)) = accAt m 0 2 3 c := by
    show joined (accAt m 0 2 2 c) (sentAt m 24 (pa 24 c)) = _
    rw [join_eq m c (i := 24) (h := 0) (l := 2) (s := 2) (t := 3) (by decide)]; try rfl
  rw [e1]
  iapply Hk
  isplitl [HO]; · iexact HO
  isplitl [HT]; · iexact HT
  isplitl [HXB]; · iexact HXB
  isplitl [HSA]; · iexact HSA
  iexact HD

theorem part36 {α : Type} (K : Dev nD × Fin 64 → ℕ) (c : Dev nD) (v2 : BitVec 32) (v913 : BitVec 32)
    {k : (Σ' (v969 : FVec F S64x1024 .f32) (v978 : BitVec 32), BitVec 32) → Prog (TpuEff nD τ sig (Elt F) Λ₀ .tc) α} {Q : α → sProp 𝕄} :
    iprop(Env m K ∗ Owe (F := F) c 5 26 0 ∗ Flight (F := F) 25 c ∗ Done (F := F) c 25 ∗ sendAny (F := F) 26 c)
      ⊢ iprop((∀ v978 : BitVec 32, ∀ v979 : BitVec 32, (Owe (F := F) c 5 26 0 ∗ sendHas 27 (sentAt m 27 c) c ∗ Done (F := F) c 26 ∗ sendHas 26 (sentAt m 26 c) c) -∗ wpc c (k ⟨accAt m 1 2 3 c, v978, v979⟩) Q)
        -∗ wpc c (onBuffers (k0_part36 (F := F)) v2 (accAt m 1 2 2 c) v913 (accAt m 0 2 3 c) >>= k) Q) := by
  unfold onBuffers
  rw [k0_part36_eq_skeleton]; unfold k0_part36_skel
  simp only [semSignalWord, semWaitWord, Prog.lift, Prog.bind_op, Prog.bind_ret, Prog.pure_eq_ret, Prog.bind_assoc, wp_deviceId]
  iintro ⟨#Henv, HO, HXB, HD, HSA⟩ Hk
  iapply (wp_wait_snd m K c 25 (by decide) 26 rfl rfl) $$ [HO HXB]
  · isplitr; · iexact Henv
    isplitl [HO]; · iexact HO
    iexact HXB
  iintro ⟨HO, HXB, HSB⟩
  iapply (wp_wait_rcv m K c 25 (by decide) 26 (by decide) rfl rfl) $$ [HO HXB]
  · isplitr; · iexact Henv
    isplitl [HO]; · iexact HO
    iexact HXB
  iintro ⟨HO, HXB⟩
  iapply (wp_load_slot m c 25) $$ [HD HXB]
  · isplitl [HD]; · iexact HD
    iexact HXB
  iintro HD
  iapply (wp_load_send c 26) $$ HSA
  iintro %v971 HSA
  have e1 : k0_pay68 (accAt m 0 2 3 c) = sentAt m 26 c := rfl
  iapply (wp_store_send m c 26 e1) $$ HSA
  iintro HSA
  iapply (wp_load_send c 27) $$ HSB
  iintro %v975 HSB
  have e2 : k0_pay69 (accAt m 1 2 2 c) (sentAt m 25 (pa 25 c)) = sentAt m 27 c := by
    show sent (joined (accAt m 1 2 2 c) (sentAt m 25 (pa 25 c))) = _
    rw [join_eq m c (i := 25) (h := 1) (l := 2) (s := 2) (t := 3) (by decide)]; try rfl
  iapply (wp_store_send m c 27 e2) $$ HSB
  iintro HSB
  have e3 : k0_pay67 (accAt m 1 2 2 c) (sentAt m 25 (pa 25 c)) = accAt m 1 2 3 c := by
    show joined (accAt m 1 2 2 c) (sentAt m 25 (pa 25 c)) = _
    rw [join_eq m c (i := 25) (h := 1) (l := 2) (s := 2) (t := 3) (by decide)]; try rfl
  rw [e3]
  iapply Hk
  isplitl [HO]; · iexact HO
  isplitl [HSB]; · iexact HSB
  isplitl [HD]; · iexact HD
  iexact HSA

theorem part37 {α : Type} (K : Dev nD × Fin 64 → ℕ) (c : Dev nD) (v978 : BitVec 32) (v979 : BitVec 32)
    {k : (PUnit) → Prog (TpuEff nD τ sig (Elt F) Λ₀ .tc) α} {Q : α → sProp 𝕄} :
    iprop(Env m K ∗ Owe (F := F) c 5 26 0 ∗ Todo (F := F) c 26 ∗ sendHas 26 (sentAt m 26 c) c ∗ sendHas 27 (sentAt m 27 c) c)
      ⊢ iprop(((Owe (F := F) c 5 28 0 ∗ Todo (F := F) c 28 ∗ sendAny (F := F) 28 c ∗ Away (F := F) 26 c ∗ Flight (F := F) 27 c) -∗ wpc c (k ⟨⟩) Q)
        -∗ wpc c (onBuffers (k0_part37 (F := F)) c v978 v979 >>= k) Q) := by
  unfold onBuffers
  rw [k0_part37_eq_skeleton]; unfold k0_part37_skel
  simp only [semSignalWord, semWaitWord, Prog.lift, Prog.bind_op, Prog.bind_ret, Prog.pure_eq_ret, Prog.bind_assoc, wp_deviceId]
  iintro ⟨#Henv, HO, HT, HSA, HSB⟩ Hk
  iapply (wp_send_exchange m K c 26 (by decide) 0 (dev32 c) rfl rfl rfl rfl) $$ [HO HT HSA]
  · isplitr; · iexact Henv
    isplitl [HO]; · iexact HO
    isplitl [HT]; · iexact HT
    iexact HSA
  iintro ⟨HO, HT, HXA⟩
  iapply (wp_send_exchange m K c 27 (by decide) 0 (dev33 c) rfl rfl rfl rfl) $$ [HO HT HSB]
  · isplitr; · iexact Henv
    isplitl [HO]; · iexact HO
    isplitl [HT]; · iexact HT
    iexact HSB
  iintro ⟨HO, HT, HXB⟩
  iapply (wp_wait_snd m K c 26 (by decide) 28 rfl rfl) $$ [HO HXA]
  · isplitr; · iexact Henv
    isplitl [HO]; · iexact HO
    iexact HXA
  iintro ⟨HO, HXA, HSA⟩
  iapply Hk
  isplitl [HO]; · iexact HO
  isplitl [HT]; · iexact HT
  isplitl [HSA]; · iexact HSA
  isplitl [HXA]; · iexact HXA
  iexact HXB

theorem part38 {α : Type} (K : Dev nD × Fin 64 → ℕ) (c : Dev nD) (v979 : BitVec 32)
    {k : (Σ' (v1017 : FVec F S64x1024 .f32) (v1035 : FVec F S64x1024 .f32), FVec F S64x1024 .bf16) → Prog (TpuEff nD τ sig (Elt F) Λ₀ .tc) α} {Q : α → sProp 𝕄} :
    iprop(Env m K ∗ Owe (F := F) c 5 28 0 ∗ Away (F := F) 26 c ∗ Done (F := F) c 26 ∗ Flight (F := F) 27 c)
      ⊢ iprop(((Owe (F := F) c 5 28 0 ∗ Done (F := F) c 28 ∗ sendAny (F := F) 29 c) -∗ wpc c (k ⟨accAt m 0 2 4 c, accAt m 1 2 4 c, truncf .bf16 (accAt m 0 2 4 c) bitsLt_bf16_f32⟩) Q)
        -∗ wpc c (onBuffers (k0_part38 (F := F)) (accAt m 0 2 3 c) (accAt m 1 2 3 c) v979 >>= k) Q) := by
  unfold onBuffers
  rw [k0_part38_eq_skeleton]; unfold k0_part38_skel
  simp only [semSignalWord, semWaitWord, Prog.lift, Prog.bind_op, Prog.bind_ret, Prog.pure_eq_ret, Prog.bind_assoc, wp_deviceId]
  iintro ⟨#Henv, HO, HXA, HD, HXB⟩ Hk
  iapply (wp_wait_rcv m K c 26 (by decide) 28 (by decide) rfl rfl) $$ [HO HXA]
  · isplitr; · iexact Henv
    isplitl [HO]; · iexact HO
    iexact HXA
  iintro ⟨HO, HXA⟩
  iapply (wp_load_slot m c 26) $$ [HD HXA]
  · isplitl [HD]; · iexact HD
    iexact HXA
  iintro HD
  iapply (wp_wait_snd m K c 27 (by decide) 28 rfl rfl) $$ [HO HXB]
  · isplitr; · iexact Henv
    isplitl [HO]; · iexact HO
    iexact HXB
  iintro ⟨HO, HXB, HSB⟩
  iapply (wp_wait_rcv m K c 27 (by decide) 28 (by decide) rfl rfl) $$ [HO HXB]
  · isplitr; · iexact Henv
    isplitl [HO]; · iexact HO
    iexact HXB
  iintro ⟨HO, HXB⟩
  iapply (wp_load_slot m c 27) $$ [HD HXB]
  · isplitl [HD]; · iexact HD
    iexact HXB
  iintro HD
  have e1 : k0_pay70 (accAt m 0 2 3 c) (sentAt m 26 (pa 26 c)) = accAt m 0 2 4 c := by
    show joined (accAt m 0 2 3 c) (sentAt m 26 (pa 26 c)) = _
    rw [join_eq m c (i := 26) (h := 0) (l := 2) (s := 3) (t := 4) (by decide)]; try rfl
  have e2 : k0_pay71 (accAt m 1 2 3 c) (sentAt m 27 (pa 27 c)) = accAt m 1 2 4 c := by
    show joined (accAt m 1 2 3 c) (sentAt m 27 (pa 27 c)) = _
    rw [join_eq m c (i := 27) (h := 1) (l := 2) (s := 3) (t := 4) (by decide)]; try rfl
  have e3 : k0_pay72 (accAt m 0 2 3 c) (sentAt m 26 (pa 26 c)) = truncf .bf16 (accAt m 0 2 4 c) bitsLt_bf16_f32 := by
    show truncf .bf16 (joined (accAt m 0 2 3 c) (sentAt m 26 (pa 26 c))) bitsLt_bf16_f32 = _
    rw [join_eq m c (i := 26) (h := 0) (l := 2) (s := 3) (t := 4) (by decide)]; try rfl
  rw [e1, e2, e3]
  iapply Hk
  isplitl [HO]; · iexact HO
  isplitl [HD]; · iexact HD
  iexact HSB

theorem part39 {α : Type} (K : Dev nD × Fin 64 → ℕ) (c : Dev nD) (v2 : BitVec 32)
    {k : (Σ' (v1044 : BitVec 32), BitVec 32) → Prog (TpuEff nD τ sig (Elt F) Λ₀ .tc) α} {Q : α → sProp 𝕄} :
    iprop(Env m K ∗ sendAny (F := F) 28 c ∗ sendAny (F := F) 29 c ∗ Owe (F := F) c 5 28 0 ∗ Todo (F := F) c 28)
      ⊢ iprop((∀ v1044 : BitVec 32, ∀ v1045 : BitVec 32, (Owe (F := F) c 5 30 0 ∗ Todo (F := F) c 30 ∗ Flight (F := F) 28 c ∗ Flight (F := F) 29 c) -∗ wpc c (k ⟨v1044, v1045⟩) Q)
        -∗ wpc c (onBuffers (k0_part39 (F := F)) c v2 (accAt m 1 2 4 c) (truncf .bf16 (accAt m 0 2 4 c) bitsLt_bf16_f32) >>= k) Q) := by
  unfold onBuffers
  rw [k0_part39_eq_skeleton]; unfold k0_part39_skel
  simp only [semSignalWord, semWaitWord, Prog.lift, Prog.bind_op, Prog.bind_ret, Prog.pure_eq_ret, Prog.bind_assoc, wp_deviceId]
  iintro ⟨#Henv, HSA, HSB, HO, HT⟩ Hk
  iapply (wp_load_send c 28) $$ HSA
  iintro %v1037 HSA
  have e1 : k0_pay73 (truncf .bf16 (accAt m 0 2 4 c) bitsLt_bf16_f32) = sentAt m 28 c := rfl
  iapply (wp_store_send m c 28 e1) $$ HSA
  iintro HSA
  iapply (wp_load_send c 29) $$ HSB
  iintro %v1041 HSB
  have e2 : k0_pay74 (accAt m 1 2 4 c) = sentAt m 29 c := rfl
  iapply (wp_store_send m c 29 e2) $$ HSB
  iintro HSB
  iapply (wp_send_exchange m K c 28 (by decide) 0 (dev34 c) rfl rfl rfl rfl) $$ [HO HT HSA]
  · isplitr; · iexact Henv
    isplitl [HO]; · iexact HO
    isplitl [HT]; · iexact HT
    iexact HSA
  iintro ⟨HO, HT, HXA⟩
  iapply (wp_send_exchange m K c 29 (by decide) 0 (dev35 c) rfl rfl rfl rfl) $$ [HO HT HSB]
  · isplitr; · iexact Henv
    isplitl [HO]; · iexact HO
    isplitl [HT]; · iexact HT
    iexact HSB
  iintro ⟨HO, HT, HXB⟩
  iapply Hk
  isplitl [HO]; · iexact HO
  isplitl [HT]; · iexact HT
  isplitl [HXA]; · iexact HXA
  iexact HXB

theorem part40 {α : Type} (K : Dev nD × Fin 64 → ℕ) (c : Dev nD) (v1044 : BitVec 32)
    {k : (FVec F S64x1024 .f32) → Prog (TpuEff nD τ sig (Elt F) Λ₀ .tc) α} {Q : α → sProp 𝕄} :
    iprop(Env m K ∗ Owe (F := F) c 5 30 0 ∗ Flight (F := F) 28 c ∗ Done (F := F) c 28 ∗ owns (c : Thread nD τ) wobM fullShare (woutB m 2 c))
      ⊢ iprop(((Owe (F := F) c 5 30 0 ∗ sendAny (F := F) 30 c ∗ Done (F := F) c 29 ∗ owns (c : Thread nD τ) wobM fullShare (woutB m 2 c)) -∗ wpc c (k (outA m 2 c)) Q)
        -∗ wpc c (onBuffers (k0_part40 (F := F)) (accAt m 0 2 4 c) v1044 >>= k) Q) := by
  unfold onBuffers
  rw [k0_part40_eq_skeleton]; unfold k0_part40_skel
  simp only [semSignalWord, semWaitWord, Prog.lift, Prog.bind_op, Prog.bind_ret, Prog.pure_eq_ret, Prog.bind_assoc, wp_deviceId]
  iintro ⟨#Henv, HO, HXA, HD, Hwob⟩ Hk
  iapply (wp_wait_snd m K c 28 (by decide) 30 rfl rfl) $$ [HO HXA]
  · isplitr; · iexact Henv
    isplitl [HO]; · iexact HO
    iexact HXA
  iintro ⟨HO, HXA, HSA⟩
  iapply (wp_wait_rcv m K c 28 (by decide) 30 (by decide) rfl rfl) $$ [HO HXA]
  · isplitr; · iexact Henv
    isplitl [HO]; · iexact HO
    iexact HXA
  iintro ⟨HO, HXA⟩
  iapply (wp_load_slot m c 28) $$ [HD HXA]
  · isplitl [HD]; · iexact HD
    iexact HXA
  iintro HD
  iapply (wp_load_rows c 0) $$ Hwob
  iintro Hwob
  have e1 : k0_pay75 (accAt m 0 2 4 c) (sentAt m 28 (pa 28 c)) (rows 0 (woutB m 2 c)) = outA m 2 c := by
    show mm (actv (joined (accAt m 0 2 4 c) (sentAt m 28 (pa 28 c)))) (rows 0 (woutB m 2 c)) = _
    rw [join_eq m c (i := 28) (h := 0) (l := 2) (s := 4) (t := 5) (by decide)]; try rfl
  rw [e1]
  iapply Hk
  isplitl [HO]; · iexact HO
  isplitl [HSA]; · iexact HSA
  isplitl [HD]; · iexact HD
  iexact Hwob

theorem part41 {α : Type} (K : Dev nD × Fin 64 → ℕ) (c : Dev nD) (v2 : BitVec 32) (v1045 : BitVec 32)
    {k : (Σ' (v1119_r0 : BitVec 32), BitVec 32) → Prog (TpuEff nD τ sig (Elt F) Λ₀ .tc) α} {Q : α → sProp 𝕄} :
    iprop(Env m K ∗ Owe (F := F) c 5 30 0 ∗ Flight (F := F) 29 c ∗ Done (F := F) c 29 ∗ owns (c : Thread nD τ) wobM fullShare (woutB m 2 c) ∗ anyAt (F := F) oM c ∗ Bye (F := F) c 0)
      ⊢ iprop((∀ v1119_r0 : BitVec 32, ∀ c0_i32_1158_r0 : BitVec 32, (Owe (F := F) c 5 30 1 ∗ sendAny (F := F) 31 c ∗ Done (F := F) c 30 ∗ owns (c : Thread nD τ) wobM fullShare (woutB m 2 c) ∗ owns (c : Thread nD τ) oM fullShare (outAt m c) ∗ Bye (F := F) c 1) -∗ wpc c (k ⟨v1119_r0, c0_i32_1158_r0⟩) Q)
        -∗ wpc c (onBuffers (k0_part41 (F := F)) c v2 (accAt m 1 2 4 c) v1045 (outA m 2 c) >>= k) Q) := by
  unfold onBuffers
  rw [k0_part41_eq_skeleton]; unfold k0_part41_skel
  simp only [semSignalWord, semWaitWord, Prog.lift, Prog.bind_op, Prog.bind_ret, Prog.pure_eq_ret, Prog.bind_assoc, wp_deviceId]
  iintro ⟨#Henv, HO, HXB, HD, Hwob, Hout, HY⟩ Hk
  iapply (wp_wait_snd m K c 29 (by decide) 30 rfl rfl) $$ [HO HXB]
  · isplitr; · iexact Henv
    isplitl [HO]; · iexact HO
    iexact HXB
  iintro ⟨HO, HXB, HSB⟩
  iapply (wp_wait_rcv m K c 29 (by decide) 30 (by decide) rfl rfl) $$ [HO HXB]
  · isplitr; · iexact Henv
    isplitl [HO]; · iexact HO
    iexact HXB
  iintro ⟨HO, HXB⟩
  iapply (wp_load_slot m c 29) $$ [HD HXB]
  · isplitl [HD]; · iexact HD
    iexact HXB
  iintro HD
  iapply (wp_load_rows c 1) $$ Hwob
  iintro Hwob
  iapply (wp_load_dead c oM _) $$ Hout
  iintro %v1113 Hout
  have e1 : k0_pay76 (accAt m 1 2 4 c) (outA m 2 c) (sentAt m 29 (pa 29 c)) (rows 1 (woutB m 2 c)) = outAt m c := by
    show addf (outA m 2 c) (mm (actv (joined (accAt m 1 2 4 c) (sentAt m 29 (pa 29 c)))) (rows 1 (woutB m 2 c))) = _
    rw [join_eq m c (i := 29) (h := 1) (l := 2) (s := 4) (t := 5) (by decide)]; try rfl
  iapply (wp_store_all c 1 rfl off_zero e1) $$ Hout
  iintro Hout
  iapply (wp_signal_sec m K c 0 (by decide) (dev36 c) rfl rfl) $$ [HO HY]
  · isplitr; · iexact Henv
    isplitl [HO]; · iexact HO
    iexact HY
  iintro ⟨HO, HY⟩
  iapply Hk
  isplitl [HO]; · iexact HO
  isplitl [HSB]; · iexact HSB
  isplitl [HD]; · iexact HD
  isplitl [Hwob]; · iexact Hwob
  isplitl [Hout]; · iexact Hout
  iexact HY

end Cert.Mlp

end
-- ==== Proof.Body.lean ====
/-
The whole body on one device: its parts one after the other.
-/
module

public import proofs.«01_k».proof.Proof.Layer0
public import proofs.«01_k».proof.Proof.Layer1
public import proofs.«01_k».proof.Proof.Layer2

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a device starts its body with, besides what all know. -/
def Start (c : Dev nD) : sProp 𝕄 :=
  iprop(Owe (F := F) c 0 0 0 ∗ Knock (F := F) c 0 ∗ AtBar (F := F) c ∗ bigSep (Finset.Ico 0 30) (fun i => Ready (F := F) i c) ∗ Done (F := F) c 0 ∗ sendAny (F := F) 0 c ∗ sendAny (F := F) 1 c ∗ anyAt (F := F) wiM c ∗ Idle m cpiD winM 0 c ∗ anyAt (F := F) woM c ∗ Idle m cpoD woutM 0 c ∗ anyAt (F := F) wibM c ∗ anyAt (F := F) wobM c ∗ owns (c : Thread nD τ) xM fullShare (xstg m c) ∗ anyAt (F := F) oM c ∗ Bye (F := F) c 0 ∗ AtSec (F := F) c)

/-- What it ends its body with. -/
def Finish (c : Dev nD) : sProp 𝕄 :=
  iprop(Owe (F := F) c 5 30 5 ∗ semVal (barC c) 0 ∗ Done (F := F) c 30 ∗ sendAny (F := F) 30 c ∗ sendAny (F := F) 31 c ∗ owns (c : Thread nD τ) wiM fullShare (winAt m 2 c) ∗ semVal (cpiC c) 0 ∗ bigSep (Finset.Ico 0 3) (fun l => winHbm m l c) ∗ owns (c : Thread nD τ) woM fullShare (woutAt m 2 c) ∗ semVal (cpoC c) 0 ∗ bigSep (Finset.Ico 0 3) (fun l => woutHbm m l c) ∗ owns (c : Thread nD τ) wibM fullShare (winB m 2 c) ∗ owns (c : Thread nD τ) wobM fullShare (woutB m 2 c) ∗ owns (c : Thread nD τ) xM fullShare (xstg m c) ∗ owns (c : Thread nD τ) oM fullShare (outAt m c) ∗ semVal (secC c) 0)

theorem body_runs (K : Dev nD × Fin 64 → ℕ) (c : Dev nD) :
    iprop(Env m K ∗ Start m c) ⊢ wpc c (onBuffers (cc0_body (F := F))) (fun _ => Finish m c) := by
  unfold Start onBuffers
  rw [cc0_body_eq_skeleton]; unfold cc0_body_skel
  rw [k0_part42_eq_skeleton]; unfold k0_part42_skel
  simp only [semSignalWord, semWaitWord, Prog.lift, Prog.bind_op, Prog.bind_ret, Prog.pure_eq_ret, Prog.bind_assoc]
  iintro ⟨#Henv, HO, HK, HB, HR, HD, HSA, HSB, Hwi, HCI, Hwo, HCO, Hwib, Hwob, Hx, Hout, HY, HZ⟩
  iapply (part1 m K c) $$ [HCI Hwi HCO Hwo HO Hwib HK]
  · isplitr; · iexact Henv
    isplitl [HCI]; · iexact HCI
    isplitl [Hwi]; · iexact Hwi
    isplitl [HCO]; · iexact HCO
    isplitl [Hwo]; · iexact Hwo
    isplitl [HO]; · iexact HO
    isplitl [Hwib]; · iexact Hwib
    iexact HK
  iintro %v2 ⟨HCI, Hwi, HCO, HO, Hwib, HK⟩
  iapply (part2 m K c _) $$ [HO HK HB HR Hx Hwib HSA]
  · isplitr; · iexact Henv
    isplitl [HO]; · iexact HO
    isplitl [HK]; · iexact HK
    isplitl [HB]; · iexact HB
    isplitl [HR]; · iexact HR
    isplitl [Hx]; · iexact Hx
    isplitl [Hwib]; · iexact Hwib
    iexact HSA
  iintro %v39 %v40 ⟨HO, HK, HB, HT, Hx, Hwib, HXA⟩
  iapply (part3 m K c _) $$ [HSB HO HT HCO Hwob HXA]
  · isplitr; · iexact Henv
    isplitl [HSB]; · iexact HSB
    isplitl [HO]; · iexact HO
    isplitl [HT]; · iexact HT
    isplitl [HCO]; · iexact HCO
    isplitl [Hwob]; · iexact Hwob
    iexact HXA
  iintro ⟨HO, HT, HXB, HCO, Hwo, Hwob, HXA, HSA⟩
  iapply (part4 m K c _ _) $$ [HO HXA HD HXB]
  · isplitr; · iexact Henv
    isplitl [HO]; · iexact HO
    isplitl [HXA]; · iexact HXA
    isplitl [HD]; · iexact HD
    iexact HXB
  iintro ⟨HO, HD, HXB, HSB⟩
  iapply (part5 m K c _) $$ [HD HXB HSA HSB HO HT]
  · isplitr; · iexact Henv
    isplitl [HD]; · iexact HD
    isplitl [HXB]; · iexact HXB
    isplitl [HSA]; · iexact HSA
    isplitl [HSB]; · iexact HSB
    isplitl [HO]; · iexact HO
    iexact HT
  iintro %v118 %v119 ⟨HD, HSB, HO, HT, HXA⟩
  iapply (part6 m K c _) $$ [HO HT HSB Hwi HCI HXA HD]
  · isplitr; · iexact Henv
    isplitl [HO]; · iexact HO
    isplitl [HT]; · iexact HT
    isplitl [HSB]; · iexact HSB
    isplitl [Hwi]; · iexact Hwi
    isplitl [HCI]; · iexact HCI
    isplitl [HXA]; · iexact HXA
    iexact HD
  iintro ⟨HO, HT, HXB, HCI, HSA, HD⟩
  iapply (part7 m K c _ _) $$ [HO HXB HD HSA]
  · isplitr; · iexact Henv
    isplitl [HO]; · iexact HO
    isplitl [HXB]; · iexact HXB
    isplitl [HD]; · iexact HD
    iexact HSA
  iintro %v186 %v187 ⟨HO, HSB, HD, HSA⟩
  iapply (part8 m K c _ _) $$ [HO HT HSA HSB HCI Hwib]
  · isplitr; · iexact Henv
    isplitl [HO]; · iexact HO
    isplitl [HT]; · iexact HT
    isplitl [HSA]; · iexact HSA
    isplitl [HSB]; · iexact HSB
    isplitl [HCI]; · iexact HCI
    iexact Hwib
  iintro ⟨HO, HT, HXA, HXB, HCI, Hwi, Hwib⟩
  iapply (part9 m K c _ _) $$ [HO HXA HD HXB]
  · isplitr; · iexact Henv
    isplitl [HO]; · iexact HO
    isplitl [HXA]; · iexact HXA
    isplitl [HD]; · iexact HD
    iexact HXB
  iintro ⟨HO, HSA, HD, HXB, HSB⟩
  iapply (part10 m K c _) $$ [HO HXB HD HSA HSB HT]
  · isplitr; · iexact Henv
    isplitl [HO]; · iexact HO
    isplitl [HXB]; · iexact HXB
    isplitl [HD]; · iexact HD
    isplitl [HSA]; · iexact HSA
    isplitl [HSB]; · iexact HSB
    iexact HT
  iintro %v259 %v260 ⟨HO, HD, HSB, HT, HXA⟩
  iapply (part11 m K c _ _) $$ [HO HT HSB Hwo HCO HXA]
  · isplitr; · iexact Henv
    isplitl [HO]; · iexact HO
    isplitl [HT]; · iexact HT
    isplitl [HSB]; · iexact HSB
    isplitl [Hwo]; · iexact Hwo
    isplitl [HCO]; · iexact HCO
    iexact HXA
  iintro ⟨HO, HT, HXB, HCO, HXA, HSA⟩
  iapply (part12 m K c _) $$ [HD HXA HO HXB HSA]
  · isplitr; · iexact Henv
    isplitl [HD]; · iexact HD
    isplitl [HXA]; · iexact HXA
    isplitl [HO]; · iexact HO
    isplitl [HXB]; · iexact HXB
    iexact HSA
  iintro %v324 ⟨HD, HO, HSB, HSA⟩
  iapply (part13 m K c _ _) $$ [HSB HO HT HSA]
  · isplitr; · iexact Henv
    isplitl [HSB]; · iexact HSB
    isplitl [HO]; · iexact HO
    isplitl [HT]; · iexact HT
    iexact HSA
  iintro %v327 %v328 ⟨HO, HT, HXA, HXB⟩
  iapply (part14 m K c _) $$ [HO HXA HD Hwob HXB]
  · isplitr; · iexact Henv
    isplitl [HO]; · iexact HO
    isplitl [HXA]; · iexact HXA
    isplitl [HD]; · iexact HD
    isplitl [Hwob]; · iexact Hwob
    iexact HXB
  iintro ⟨HO, HSA, HD, Hwob, HXB, HSB⟩
  iapply (part15 m K c _ _) $$ [HO HXB HD Hwob Hwib HSA]
  · isplitr; · iexact Henv
    isplitl [HO]; · iexact HO
    isplitl [HXB]; · iexact HXB
    isplitl [HD]; · iexact HD
    isplitl [Hwob]; · iexact Hwob
    isplitl [Hwib]; · iexact Hwib
    iexact HSA
  iintro %v403 %v404 ⟨HO, HD, Hwob, Hwib, HSA⟩
  iapply (part16 m K c _) $$ [HO HT HSA Hwib HSB HCO Hwob]
  · isplitr; · iexact Henv
    isplitl [HO]; · iexact HO
    isplitl [HT]; · iexact HT
    isplitl [HSA]; · iexact HSA
    isplitl [Hwib]; · iexact Hwib
    isplitl [HSB]; · iexact HSB
    isplitl [HCO]; · iexact HCO
    iexact Hwob
  iintro ⟨HO, HT, HXA, Hwib, HXB, HCO, Hwo, Hwob⟩
  iapply (part17 m K c _) $$ [HO HXA HD HXB]
  · isplitr; · iexact Henv
    isplitl [HO]; · iexact HO
    isplitl [HXA]; · iexact HXA
    isplitl [HD]; · iexact HD
    iexact HXB
  iintro ⟨HO, HSA, HD, HXB, HSB⟩
  iapply (part18 m K c _ _) $$ [HO HXB HD HSA HSB]
  · isplitr; · iexact Henv
    isplitl [HO]; · iexact HO
    isplitl [HXB]; · iexact HXB
    isplitl [HD]; · iexact HD
    isplitl [HSA]; · iexact HSA
    iexact HSB
  iintro %v482 %v483 ⟨HO, HD, HSA, HSB⟩
  iapply (part19 m K c _ _) $$ [HO HT HSA HSB Hwi HCI]
  · isplitr; · iexact Henv
    isplitl [HO]; · iexact HO
    isplitl [HT]; · iexact HT
    isplitl [HSA]; · iexact HSA
    isplitl [HSB]; · iexact HSB
    isplitl [Hwi]; · iexact Hwi
    iexact HCI
  iintro ⟨HO, HT, HSA, HXA, HXB, HCI⟩
  iapply (part20 m K c _) $$ [HO HXA HD HXB HSA]
  · isplitr; · iexact Henv
    isplitl [HO]; · iexact HO
    isplitl [HXA]; · iexact HXA
    isplitl [HD]; · iexact HD
    isplitl [HXB]; · iexact HXB
    iexact HSA
  iintro ⟨HO, HD, HSB, HSA⟩
  iapply (part21 m K c _) $$ [HSA HSB HO HT HCI]
  · isplitr; · iexact Henv
    isplitl [HSA]; · iexact HSA
    isplitl [HSB]; · iexact HSB
    isplitl [HO]; · iexact HO
    isplitl [HT]; · iexact HT
    iexact HCI
  iintro %v550 %v551 ⟨HO, HT, HXA, HXB, HCI, Hwi⟩
  iapply (part22 m K c _) $$ [Hwi Hwib HO HXA HD]
  · isplitr; · iexact Henv
    isplitl [Hwi]; · iexact Hwi
    isplitl [Hwib]; · iexact Hwib
    isplitl [HO]; · iexact HO
    isplitl [HXA]; · iexact HXA
    iexact HD
  iintro ⟨Hwi, Hwib, HO, HSA, HD⟩
  iapply (part23 m K c _ _) $$ [HO HXB HD HSA]
  · isplitr; · iexact Henv
    isplitl [HO]; · iexact HO
    isplitl [HXB]; · iexact HXB
    isplitl [HD]; · iexact HD
    iexact HSA
  iintro %v623 %v624 %v625 %c0_i32_643 ⟨HO, HSB, HD, HSA⟩
  iapply (part24 m K c _ _ _) $$ [HO HT HSA HSB Hwo HCO]
  · isplitr; · iexact Henv
    isplitl [HO]; · iexact HO
    isplitl [HT]; · iexact HT
    isplitl [HSA]; · iexact HSA
    isplitl [HSB]; · iexact HSB
    isplitl [Hwo]; · iexact Hwo
    iexact HCO
  iintro %c1_i32_672 ⟨HO, HT, HSA, HXA, HXB, HCO⟩
  iapply (part25 m K c _ _ _) $$ [HO HXA HD HXB]
  · isplitr; · iexact Henv
    isplitl [HO]; · iexact HO
    isplitl [HXA]; · iexact HXA
    isplitl [HD]; · iexact HD
    iexact HXB
  iintro ⟨HO, HD, HSB⟩
  iapply (part26 m K c _) $$ [HSA HSB HO HT]
  · isplitr; · iexact Henv
    isplitl [HSA]; · iexact HSA
    isplitl [HSB]; · iexact HSB
    isplitl [HO]; · iexact HO
    iexact HT
  iintro %v691 %v692 ⟨HSB, HO, HT, HXA⟩
  iapply (part27 m K c _) $$ [HO HT HSB HXA HD Hwob]
  · isplitr; · iexact Henv
    isplitl [HO]; · iexact HO
    isplitl [HT]; · iexact HT
    isplitl [HSB]; · iexact HSB
    isplitl [HXA]; · iexact HXA
    isplitl [HD]; · iexact HD
    iexact Hwob
  iintro ⟨HO, HT, HXB, HSA, HD, Hwob⟩
  iapply (part28 m K c _) $$ [HO HXB HD Hwob Hwib HSA]
  · isplitr; · iexact Henv
    isplitl [HO]; · iexact HO
    isplitl [HXB]; · iexact HXB
    isplitl [HD]; · iexact HD
    isplitl [Hwob]; · iexact Hwob
    isplitl [Hwib]; · iexact Hwib
    iexact HSA
  iintro ⟨HO, HSB, HD, Hwob, Hwib, HSA⟩
  iapply (part29 m K c _) $$ [HSA HO HT Hwib HSB]
  · isplitr; · iexact Henv
    isplitl [HSA]; · iexact HSA
    isplitl [HO]; · iexact HO
    isplitl [HT]; · iexact HT
    isplitl [Hwib]; · iexact Hwib
    iexact HSB
  iintro %v767 %v768 ⟨HO, HT, HXA, Hwib, HSB⟩
  iapply (part30 m K c _) $$ [HO HT HSB HCO Hwob HXA HD]
  · isplitr; · iexact Henv
    isplitl [HO]; · iexact HO
    isplitl [HT]; · iexact HT
    isplitl [HSB]; · iexact HSB
    isplitl [HCO]; · iexact HCO
    isplitl [Hwob]; · iexact Hwob
    isplitl [HXA]; · iexact HXA
    iexact HD
  iintro ⟨HO, HT, HXB, HCO, Hwo, Hwob, HSA, HD⟩
  iapply (part31 m K c _ _) $$ [HO HXB HD HSA]
  · isplitr; · iexact Henv
    isplitl [HO]; · iexact HO
    isplitl [HXB]; · iexact HXB
    isplitl [HD]; · iexact HD
    iexact HSA
  iintro %v846 %v847 ⟨HO, HSB, HD, HSA⟩
  iapply (part32 m K c _ _) $$ [HO HT HSA HSB]
  · isplitr; · iexact Henv
    isplitl [HO]; · iexact HO
    isplitl [HT]; · iexact HT
    isplitl [HSA]; · iexact HSA
    iexact HSB
  iintro ⟨HO, HT, HSA, HXA, HXB⟩
  iapply (part33 m K c _ _) $$ [HO HXA HD HXB]
  · isplitr; · iexact Henv
    isplitl [HO]; · iexact HO
    isplitl [HXA]; · iexact HXA
    isplitl [HD]; · iexact HD
    iexact HXB
  iintro ⟨HO, HD, HXB, HSB⟩
  iapply (part34 m K c _) $$ [HD HXB HSA HSB HO HT]
  · isplitr; · iexact Henv
    isplitl [HD]; · iexact HD
    isplitl [HXB]; · iexact HXB
    isplitl [HSA]; · iexact HSA
    isplitl [HSB]; · iexact HSB
    isplitl [HO]; · iexact HO
    iexact HT
  iintro %v912 %v913 ⟨HD, HSB, HO, HT, HXA⟩
  iapply (part35 m K c _) $$ [HO HT HSB HXA HD]
  · isplitr; · iexact Henv
    isplitl [HO]; · iexact HO
    isplitl [HT]; · iexact HT
    isplitl [HSB]; · iexact HSB
    isplitl [HXA]; · iexact HXA
    iexact HD
  iintro ⟨HO, HT, HXB, HSA, HD⟩
  iapply (part36 m K c _ _) $$ [HO HXB HD HSA]
  · isplitr; · iexact Henv
    isplitl [HO]; · iexact HO
    isplitl [HXB]; · iexact HXB
    isplitl [HD]; · iexact HD
    iexact HSA
  iintro %v978 %v979 ⟨HO, HSB, HD, HSA⟩
  iapply (part37 m K c _ _) $$ [HO HT HSA HSB]
  · isplitr; · iexact Henv
    isplitl [HO]; · iexact HO
    isplitl [HT]; · iexact HT
    isplitl [HSA]; · iexact HSA
    iexact HSB
  iintro ⟨HO, HT, HSA, HXA, HXB⟩
  iapply (part38 m K c _) $$ [HO HXA HD HXB]
  · isplitr; · iexact Henv
    isplitl [HO]; · iexact HO
    isplitl [HXA]; · iexact HXA
    isplitl [HD]; · iexact HD
    iexact HXB
  iintro ⟨HO, HD, HSB⟩
  iapply (part39 m K c _) $$ [HSA HSB HO HT]
  · isplitr; · iexact Henv
    isplitl [HSA]; · iexact HSA
    isplitl [HSB]; · iexact HSB
    isplitl [HO]; · iexact HO
    iexact HT
  iintro %v1044 %v1045 ⟨HO, HT, HXA, HXB⟩
  iapply (part40 m K c _) $$ [HO HXA HD Hwob]
  · isplitr; · iexact Henv
    isplitl [HO]; · iexact HO
    isplitl [HXA]; · iexact HXA
    isplitl [HD]; · iexact HD
    iexact Hwob
  iintro ⟨HO, HSA, HD, Hwob⟩
  iapply (part41 m K c _ _) $$ [HO HXB HD Hwob Hout HY]
  · isplitr; · iexact Henv
    isplitl [HO]; · iexact HO
    isplitl [HXB]; · iexact HXB
    isplitl [HD]; · iexact HD
    isplitl [Hwob]; · iexact Hwob
    isplitl [Hout]; · iexact Hout
    iexact HY
  iintro %v1119_r0 %c0_i32_1158_r0 ⟨HO, HSB, HD, Hwob, Hout, HY⟩
  iapply (wp_signal_sec m K c 1 (by decide) (dev37 c) rfl rfl) $$ [HO HY]
  · isplitr; · iexact Henv
    isplitl [HO]; · iexact HO
    iexact HY
  iintro ⟨HO, HY⟩
  iapply (wp_signal_sec m K c 2 (by decide) (dev38 c) rfl rfl) $$ [HO HY]
  · isplitr; · iexact Henv
    isplitl [HO]; · iexact HO
    iexact HY
  iintro ⟨HO, HY⟩
  iapply (wp_signal_sec m K c 3 (by decide) (dev39 c) rfl rfl) $$ [HO HY]
  · isplitr; · iexact Henv
    isplitl [HO]; · iexact HO
    iexact HY
  iintro ⟨HO, HY⟩
  iapply (wp_signal_sec m K c 4 (by decide) (dev40 c) rfl rfl) $$ [HO HY]
  · isplitr; · iexact Henv
    isplitl [HO]; · iexact HO
    iexact HY
  iintro ⟨HO, HY⟩
  iapply (wp_wait_sec m K c rfl rfl) $$ [HO HZ]
  · isplitr; · iexact Henv
    isplitl [HO]; · iexact HO
    iexact HZ
  iintro ⟨HO, HZ⟩
  unfold wpc; rw [wp_ret]
  unfold Idle
  icases HCI with ⟨HaI, -, -, HWI⟩
  icases HCO with ⟨HaO, -, -, HWO⟩
  imod (Rounds.cell_close ER (sched m) (Set.mem_univ (K (c, cpiD))) (fun h => h) (R := 3) (duties_late m (cpiC c))) $$ [HaI] with HCI
  · isplitr; · iapply (env_dma m K c cpiD (by decide)); iexact Henv
    iexact HaI
  imod (Rounds.cell_close ER (sched m) (Set.mem_univ (K (c, cpoD))) (fun h => h) (R := 3) (duties_late m (cpoC c))) $$ [HaO] with HCO
  · isplitr; · iapply (env_dma m K c cpoD (by decide)); iexact Henv
    iexact HaO
  imodintro
  unfold Finish
  isplitl [HO]; · iexact HO
  isplitl [HB]; · iexact HB
  isplitl [HD]; · iexact HD
  isplitl [HSA]; · iexact HSA
  isplitl [HSB]; · iexact HSB
  isplitl [Hwi]; · iexact Hwi
  isplitl [HCI]; · iexact HCI
  isplitl [HWI]; · iexact HWI
  isplitl [Hwo]; · iexact Hwo
  isplitl [HCO]; · iexact HCO
  isplitl [HWO]; · iexact HWO
  isplitl [Hwib]; · iexact Hwib
  isplitl [Hwob]; · iexact Hwob
  isplitl [Hx]; · iexact Hx
  isplitl [Hout]; · iexact Hout
  iexact HZ

end Cert.Mlp

end
-- ==== Proof.Buffers.lean ====
/-
The kernel's exchange buffers, whole at the launch and at the exit, slot by slot between: every
receive buffer is its fifteen slots, the send buffer its two halves.
-/
module

public import proofs.«01_k».proof.Proof.Steps
public import Idealize.ShloMosaic.Lib.Ring

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The exchanges, one half after the other -/

theorem exch_split : Finset.Ico 0 30 = (Finset.univ.image fun k : Fin 15 => 2 * k.val) ∪ (Finset.univ.image fun k : Fin 15 => 2 * k.val + 1) := by
  decide +kernel

/-- A conjunction over the exchanges, as one over the stages of each half. -/
theorem by_half (Φ : ℕ → sProp 𝕄) :
    bigSep (Finset.Ico 0 30) Φ
      = iprop(bigSep Finset.univ (fun k : Fin 15 => Φ (2 * k.val)) ∗ bigSep Finset.univ (fun k : Fin 15 => Φ (2 * k.val + 1))) := by
  rw [exch_split, bigSep_union (by decide +kernel),
    bigSep_image_of_injOn (fun a _ b _ h => Fin.ext (by have : 2 * a.val = 2 * b.val := h; omega)),
    bigSep_image_of_injOn (fun a _ b _ h => Fin.ext (by have : 2 * a.val + 1 = 2 * b.val + 1 := h; omega))]
  rfl

/-! ## A buffer cut along its first axis -/

/-- Block `k` of a buffer of `n` blocks, and its slot. -/
abbrev cutRect15 (k : Fin 15) : Rect S15x64x1024 := Rect.unit (s := S15x64x1024) ![k.val, 0, 0] S1x64x1024.size (inb_slot _ k.isLt)
abbrev cutRect2 (k : Fin 2) : Rect S2x64x1024 := Rect.unit (s := S2x64x1024) ![k.val, 0, 0] S1x64x1024.size (inb_half _ k.isLt)

theorem cut15_disjoint (k k' : Fin 15) (h : k ≠ k') : Disjoint (cutRect15 k).set (cutRect15 k').set :=
  Ring.lead_disjoint (s := S15x64x1024) (NB := 15) (0 : Fin 3) 1 (fun k => ![k.val, 0, 0]) S1x64x1024.size (fun k => inb_slot _ k.isLt)
    (fun k => (Nat.one_mul _).symm) rfl k k' h
theorem cut15_cover : Finset.univ.biUnion (fun k : Fin 15 => (cutRect15 k).set) = Finset.univ :=
  Ring.lead_cover (s := S15x64x1024) (NB := 15) (0 : Fin 3) 1 (fun k => ![k.val, 0, 0]) S1x64x1024.size (fun k => inb_slot _ k.isLt)
    (fun k => (Nat.one_mul _).symm) (fun k a ha => by fin_cases a <;> first | exact absurd rfl ha | rfl) rfl
    (fun a ha => by fin_cases a <;> first | exact absurd rfl ha | rfl) rfl
theorem cut2_disjoint (k k' : Fin 2) (h : k ≠ k') : Disjoint (cutRect2 k).set (cutRect2 k').set :=
  Ring.lead_disjoint (s := S2x64x1024) (NB := 2) (0 : Fin 3) 1 (fun k => ![k.val, 0, 0]) S1x64x1024.size (fun k => inb_half _ k.isLt)
    (fun k => (Nat.one_mul _).symm) rfl k k' h
theorem cut2_cover : Finset.univ.biUnion (fun k : Fin 2 => (cutRect2 k).set) = Finset.univ :=
  Ring.lead_cover (s := S2x64x1024) (NB := 2) (0 : Fin 3) 1 (fun k => ![k.val, 0, 0]) S1x64x1024.size (fun k => inb_half _ k.isLt)
    (fun k => (Nat.one_mul _).symm) (fun k a ha => by fin_cases a <;> first | exact absurd rfl ha | rfl) rfl
    (fun a ha => by fin_cases a <;> first | exact absurd rfl ha | rfl) rfl

/-! ## The receive buffers, slot by slot -/

/-- A piece of a whole buffer, by its elements. -/
theorem anyAt_slice {s : Shape} {e : EltTy} (M : Memref sig .tc .vmem s e) (A : Memref sig .tc .vmem s e) (c : Dev nD) (h : M = A) :
    anyAt (F := F) M c = iprop(∃ f : Buf (Elt F) (A.view.loc (c : Thread nD τ)), A.view.loc (c : Thread nD τ) ↦[A.view.set]{fullShare} f) := by
  subst h; rfl

theorem slotM_even (k : Fin 15) : slotM (2 * k.val) = (Memref.whole cc0_scratch6 : Memref sig .tc .vmem S15x64x1024 .bf16).slice (cutRect15 k) (fun _ => rfl) := by
  have key : ∀ (b : Bool) (x : ℕ) (hx : x < 15), b = true → x = k.val →
      (cond b (Memref.whole cc0_scratch6) (Memref.whole cc0_scratch7) : Memref sig .tc .vmem S15x64x1024 .bf16).slice
        (Rect.unit (s := S15x64x1024) ![x, 0, 0] S1x64x1024.size (inb_slot x hx)) (fun _ => rfl)
      = (Memref.whole cc0_scratch6 : Memref sig .tc .vmem S15x64x1024 .bf16).slice (cutRect15 k) (fun _ => rfl) := by
    intro b x hx hb e; subst hb; subst e; rfl
  have h2 : 2 * k.val % 2 = 0 := by omega
  exact key (Nat.beq (2 * k.val % 2) 0) (2 * k.val / 2 % 15) (Nat.mod_lt _ (by decide)) (by rw [h2]; rfl) (by have := k.isLt; omega)
theorem slotM_odd (k : Fin 15) : slotM (2 * k.val + 1) = (Memref.whole cc0_scratch7 : Memref sig .tc .vmem S15x64x1024 .bf16).slice (cutRect15 k) (fun _ => rfl) := by
  have key : ∀ (b : Bool) (x : ℕ) (hx : x < 15), b = false → x = k.val →
      (cond b (Memref.whole cc0_scratch6) (Memref.whole cc0_scratch7) : Memref sig .tc .vmem S15x64x1024 .bf16).slice
        (Rect.unit (s := S15x64x1024) ![x, 0, 0] S1x64x1024.size (inb_slot x hx)) (fun _ => rfl)
      = (Memref.whole cc0_scratch7 : Memref sig .tc .vmem S15x64x1024 .bf16).slice (cutRect15 k) (fun _ => rfl) := by
    intro b x hx hb e; subst hb; subst e; rfl
  have h2 : (2 * k.val + 1) % 2 = 1 := by omega
  exact key (Nat.beq ((2 * k.val + 1) % 2) 0) ((2 * k.val + 1) / 2 % 15) (Nat.mod_lt _ (by decide)) (by rw [h2]; rfl) (by have := k.isLt; omega)
theorem sendM_cut (i : ℕ) (k : Fin 2) (h : i % 2 = k.val) :
    sendM i = (Memref.whole cc0_scratch5 : Memref sig .tc .vmem S2x64x1024 .bf16).slice (cutRect2 k) (fun _ => rfl) := by
  have key : ∀ (x : ℕ) (hx : x < 2), x = k.val →
      (Memref.whole cc0_scratch5 : Memref sig .tc .vmem S2x64x1024 .bf16).slice
        (Rect.unit (s := S2x64x1024) ![x, 0, 0] S1x64x1024.size (inb_half x hx)) (fun _ => rfl)
      = (Memref.whole cc0_scratch5 : Memref sig .tc .vmem S2x64x1024 .bf16).slice (cutRect2 k) (fun _ => rfl) := by
    intro x hx e; subst e; rfl
  exact key (i % 2) (Nat.mod_lt _ (by decide)) h

/-- The slots of the first half's exchanges lie in the one receive buffer, -/
theorem slotAny_even (k : Fin 15) (c : Dev nD) :
    slotAny (F := F) (2 * k.val) c = iprop(∃ f : Buf (Elt F) ((c : Thread nD τ).loc cc0_scratch6), ((c : Thread nD τ).loc cc0_scratch6) ↦[(cutRect15 k).set]{fullShare} f) := by
  unfold slotAny
  rw [anyAt_slice _ _ c (slotM_even k), show ((Memref.whole cc0_scratch6 : Memref sig .tc .vmem S15x64x1024 .bf16).slice (cutRect15 k) (fun _ => rfl)).view.set
    = (cutRect15 k).set from View.set_slice_whole _ _]
/-- those of the second half's in the other. -/
theorem slotAny_odd (k : Fin 15) (c : Dev nD) :
    slotAny (F := F) (2 * k.val + 1) c = iprop(∃ f : Buf (Elt F) ((c : Thread nD τ).loc cc0_scratch7), ((c : Thread nD τ).loc cc0_scratch7) ↦[(cutRect15 k).set]{fullShare} f) := by
  unfold slotAny
  rw [anyAt_slice _ _ c (slotM_odd k), show ((Memref.whole cc0_scratch7 : Memref sig .tc .vmem S15x64x1024 .bf16).slice (cutRect15 k) (fun _ => rfl)).view.set
    = (cutRect15 k).set from View.set_slice_whole _ _]
/-- The half of the send buffer that the exchanges of one parity send. -/
theorem sendAny_cut (i : ℕ) (k : Fin 2) (h : i % 2 = k.val) (c : Dev nD) :
    sendAny (F := F) i c = iprop(∃ f : Buf (Elt F) ((c : Thread nD τ).loc cc0_scratch5), ((c : Thread nD τ).loc cc0_scratch5) ↦[(cutRect2 k).set]{fullShare} f) := by
  unfold sendAny
  rw [anyAt_slice _ _ c (sendM_cut i k h), show ((Memref.whole cc0_scratch5 : Memref sig .tc .vmem S2x64x1024 .bf16).slice (cutRect2 k) (fun _ => rfl)).view.set
    = (cutRect2 k).set from View.set_slice_whole _ _]

/-- A buffer held whole at whatever it holds. -/
def some6 (c : Dev nD) : sProp 𝕄 := iprop(∃ f : Buf (Elt F) ((c : Thread nD τ).loc cc0_scratch6), ((c : Thread nD τ).loc cc0_scratch6) ↦{fullShare} f)
def some7 (c : Dev nD) : sProp 𝕄 := iprop(∃ f : Buf (Elt F) ((c : Thread nD τ).loc cc0_scratch7), ((c : Thread nD τ).loc cc0_scratch7) ↦{fullShare} f)
def some5 (c : Dev nD) : sProp 𝕄 := iprop(∃ f : Buf (Elt F) ((c : Thread nD τ).loc cc0_scratch5), ((c : Thread nD τ).loc cc0_scratch5) ↦{fullShare} f)

theorem open6 (c : Dev nD) : some6 (F := F) c ⊢ bigSep Finset.univ (fun k : Fin 15 => slotAny (F := F) (2 * k.val) c) := by
  rw [bigSep_congr (fun k _ => slotAny_even (F := F) k c)]
  unfold some6
  iintro ⟨%f, H⟩
  ihave H2 := (Entails.of_eq (Ring.pointsTo_blocks (ℓ := (c : Thread nD τ).loc cc0_scratch6) (fun k : Fin 15 => (cutRect15 k).set) cut15_disjoint cut15_cover f)) $$ H
  have hf : ∀ k : Fin 15, ((c : Thread nD τ).loc cc0_scratch6 ↦[(cutRect15 k).set]{fullShare} f : sProp 𝕄)
      ⊢ iprop(∃ f : Buf (Elt F) ((c : Thread nD τ).loc cc0_scratch6), ((c : Thread nD τ).loc cc0_scratch6) ↦[(cutRect15 k).set]{fullShare} f) := fun k => by
    iintro H; iexists f; iexact H
  ihave H3 := (show (bigSep Finset.univ (fun k : Fin 15 => ((c : Thread nD τ).loc cc0_scratch6 ↦[(cutRect15 k).set]{fullShare} f : sProp 𝕄)) : sProp 𝕄) ⊢ _ from
    bigSep_mono fun k _ => hf k) $$ H2
  iexact H3
include m in
theorem close6 (c : Dev nD) : bigSep Finset.univ (fun k : Fin 15 => slotAny (F := F) (2 * k.val) c) ⊢ some6 (F := F) c := by
  rw [bigSep_congr (fun k _ => slotAny_even (F := F) k c)]
  unfold some6
  exact Ring.pointsTo_blocks_join_exists (ℓ := (c : Thread nD τ).loc cc0_scratch6) (fun k : Fin 15 => (cutRect15 k).set) cut15_disjoint cut15_cover (m ((c : Thread nD τ).loc cc0_scratch6))
theorem open7 (c : Dev nD) : some7 (F := F) c ⊢ bigSep Finset.univ (fun k : Fin 15 => slotAny (F := F) (2 * k.val + 1) c) := by
  rw [bigSep_congr (fun k _ => slotAny_odd (F := F) k c)]
  unfold some7
  iintro ⟨%f, H⟩
  ihave H2 := (Entails.of_eq (Ring.pointsTo_blocks (ℓ := (c : Thread nD τ).loc cc0_scratch7) (fun k : Fin 15 => (cutRect15 k).set) cut15_disjoint cut15_cover f)) $$ H
  have hf : ∀ k : Fin 15, ((c : Thread nD τ).loc cc0_scratch7 ↦[(cutRect15 k).set]{fullShare} f : sProp 𝕄)
      ⊢ iprop(∃ f : Buf (Elt F) ((c : Thread nD τ).loc cc0_scratch7), ((c : Thread nD τ).loc cc0_scratch7) ↦[(cutRect15 k).set]{fullShare} f) := fun k => by
    iintro H; iexists f; iexact H
  ihave H3 := (show (bigSep Finset.univ (fun k : Fin 15 => ((c : Thread nD τ).loc cc0_scratch7 ↦[(cutRect15 k).set]{fullShare} f : sProp 𝕄)) : sProp 𝕄) ⊢ _ from
    bigSep_mono fun k _ => hf k) $$ H2
  iexact H3
include m in
theorem close7 (c : Dev nD) : bigSep Finset.univ (fun k : Fin 15 => slotAny (F := F) (2 * k.val + 1) c) ⊢ some7 (F := F) c := by
  rw [bigSep_congr (fun k _ => slotAny_odd (F := F) k c)]
  unfold some7
  exact Ring.pointsTo_blocks_join_exists (ℓ := (c : Thread nD τ).loc cc0_scratch7) (fun k : Fin 15 => (cutRect15 k).set) cut15_disjoint cut15_cover (m ((c : Thread nD τ).loc cc0_scratch7))
/-- The two receive buffers, whole, are the slots of all exchanges; -/
theorem slots_open (c : Dev nD) : iprop(some6 (F := F) c ∗ some7 (F := F) c) ⊢ bigSep (Finset.Ico 0 30) (fun i => slotAny (F := F) i c) := by
  rw [by_half]; exact BI.sep_mono (open6 c) (open7 c)
include m in
/-- and back. -/
theorem slots_close (c : Dev nD) : bigSep (Finset.Ico 0 30) (fun i => slotAny (F := F) i c) ⊢ iprop(some6 (F := F) c ∗ some7 (F := F) c) := by
  rw [by_half]; exact BI.sep_mono (close6 m c) (close7 m c)
theorem two (Φ : Fin 2 → sProp 𝕄) : bigSep Finset.univ Φ = iprop(Φ 0 ∗ Φ 1) := bigSep_univ_eq_bigSepL [0, 1] (by decide) (by decide) Φ
/-- The send buffer, whole, is its two halves; -/
theorem send_open (c : Dev nD) : some5 (F := F) c ⊢ iprop(sendAny (F := F) 0 c ∗ sendAny (F := F) 1 c) := by
  rw [sendAny_cut 0 0 rfl, sendAny_cut 1 1 rfl]
  unfold some5
  iintro ⟨%f, H⟩
  ihave H2 := (Entails.of_eq ((Ring.pointsTo_blocks (fun k : Fin 2 => (cutRect2 k).set) cut2_disjoint cut2_cover f).trans (two _))) $$ H
  icases H2 with ⟨H0, H1⟩
  isplitl [H0]
  · iexists f; iexact H0
  · iexists f; iexact H1
include m in
/-- and back. -/
theorem send_close (c : Dev nD) : iprop(sendAny (F := F) 30 c ∗ sendAny (F := F) 31 c) ⊢ some5 (F := F) c := by
  rw [sendAny_cut 30 0 rfl, sendAny_cut 31 1 rfl]
  refine BI.Entails.trans ?_ (Ring.pointsTo_blocks_join_exists (fun k : Fin 2 => (cutRect2 k).set) cut2_disjoint cut2_cover (m _))
  rw [two]; exact BI.Entails.refl _

end Cert.Mlp

end
-- ==== Proof.Launch.lean ====
/-
What a device starts its body from and what it ends with, as the launch deals and takes it.
-/
module

public import proofs.«01_k».proof.Proof.Ghost
public import proofs.«01_k».proof.Proof.Body
public import proofs.«01_k».proof.Proof.Buffers
public import proofs.«01_k».proof.Proof.Gen.KernelIdeal.Points
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device's body starts from and ends with -/

/-- The weights in HBM, at what they held at launch, as the launch lists them; -/
def weights (c : Dev nD) : sProp 𝕄 := Pipeline.unscopedRest cfg0.spec c (fun b => m ((c : Thread nD τ).loc b))

theorem hbm_whole (b : Ref sig .tc) (c : Dev nD) (f : Buf (Elt F) ((c : Thread nD τ).loc b)) :
    ((Memref.whole b).view.loc (c : Thread nD τ) ↦[(Memref.whole b).view.set]{fullShare} f : sProp 𝕄) = (((c : Thread nD τ).loc b) ↦{fullShare} f) := by
  simp only [Memref.view_whole, View.set_whole]
theorem winHbm0 (c : Dev nD) : winHbm m 0 c = (((c : Thread nD τ).loc main_arg1) ↦{fullShare} m ((c : Thread nD τ).loc main_arg1) : sProp 𝕄) := by
  exact hbm_whole main_arg1 c _
theorem winHbm1 (c : Dev nD) : winHbm m 1 c = (((c : Thread nD τ).loc main_arg3) ↦{fullShare} m ((c : Thread nD τ).loc main_arg3) : sProp 𝕄) := by
  exact hbm_whole main_arg3 c _
theorem winHbm2 (c : Dev nD) : winHbm m 2 c = (((c : Thread nD τ).loc main_arg5) ↦{fullShare} m ((c : Thread nD τ).loc main_arg5) : sProp 𝕄) := by
  exact hbm_whole main_arg5 c _
theorem woutHbm0 (c : Dev nD) : woutHbm m 0 c = (((c : Thread nD τ).loc main_arg2) ↦{fullShare} m ((c : Thread nD τ).loc main_arg2) : sProp 𝕄) := by
  exact hbm_whole main_arg2 c _
theorem woutHbm1 (c : Dev nD) : woutHbm m 1 c = (((c : Thread nD τ).loc main_arg4) ↦{fullShare} m ((c : Thread nD τ).loc main_arg4) : sProp 𝕄) := by
  exact hbm_whole main_arg4 c _
theorem woutHbm2 (c : Dev nD) : woutHbm m 2 c = (((c : Thread nD τ).loc main_arg6) ↦{fullShare} m ((c : Thread nD τ).loc main_arg6) : sProp 𝕄) := by
  exact hbm_whole main_arg6 c _
theorem layers (Φ : ℕ → sProp 𝕄) : bigSep (Finset.Ico 0 3) Φ = iprop(Φ 0 ∗ Φ 1 ∗ Φ 2) := by
  rw [bigSep_Ico_succ_bot (by decide), bigSep_Ico_succ_bot (by decide), bigSep_Ico_one]
/-- layer by layer. -/
theorem weights_open (c : Dev nD) :
    weights m c ⊢ iprop(bigSep (Finset.Ico 0 3) (fun l => winHbm m l c) ∗ bigSep (Finset.Ico 0 3) (fun l => woutHbm m l c)) := by
  unfold weights
  rw [unscopedRest0_eq, layers, layers, winHbm0, winHbm1, winHbm2, woutHbm0, woutHbm1, woutHbm2]
  iintro ⟨H1, H2, H3, H4, H5, H6⟩
  isplitl [H1 H3 H5]
  · isplitl [H1]; · iexact H1
    isplitl [H3] <;> iassumption
  · isplitl [H2]; · iexact H2
    isplitl [H4] <;> iassumption
theorem weights_close (c : Dev nD) :
    iprop(bigSep (Finset.Ico 0 3) (fun l => winHbm m l c) ∗ bigSep (Finset.Ico 0 3) (fun l => woutHbm m l c)) ⊢ weights m c := by
  unfold weights
  rw [unscopedRest0_eq, layers, layers, winHbm0, winHbm1, winHbm2, woutHbm0, woutHbm1, woutHbm2]
  iintro ⟨⟨H1, H3, H5⟩, H2, H4, H6⟩
  isplitl [H1]; · iexact H1
  isplitl [H2]; · iexact H2
  isplitl [H3]; · iexact H3
  isplitl [H4]; · iexact H4
  isplitl [H5]; · iexact H5
  iexact H6

/-- The kernel's scratch buffers, whole, at whatever they hold. -/
def scratch (c : Dev nD) : sProp 𝕄 :=
  iprop(anyAt (F := F) wiM c ∗ anyAt (F := F) woM c ∗ anyAt (F := F) wibM c ∗ anyAt (F := F) wobM c ∗ some5 (F := F) c ∗ some6 (F := F) c ∗ some7 (F := F) c)
theorem any_scratch0 (c : Dev nD) :
    anyAt (F := F) wiM c = iprop(∃ f : Buf (Elt F) ((c : Thread nD τ).loc cc0_scratch0), ((c : Thread nD τ).loc cc0_scratch0) ↦{fullShare} f) := by
  unfold anyAt; rw [Memref.view_whole, View.set_whole]
theorem any_scratch1 (c : Dev nD) :
    anyAt (F := F) woM c = iprop(∃ f : Buf (Elt F) ((c : Thread nD τ).loc cc0_scratch1), ((c : Thread nD τ).loc cc0_scratch1) ↦{fullShare} f) := by
  unfold anyAt; rw [Memref.view_whole, View.set_whole]
theorem any_scratch2 (c : Dev nD) :
    anyAt (F := F) wibM c = iprop(∃ f : Buf (Elt F) ((c : Thread nD τ).loc cc0_scratch2), ((c : Thread nD τ).loc cc0_scratch2) ↦{fullShare} f) := by
  unfold anyAt; rw [Memref.view_whole, View.set_whole]
theorem any_scratch3 (c : Dev nD) :
    anyAt (F := F) wobM c = iprop(∃ f : Buf (Elt F) ((c : Thread nD τ).loc cc0_scratch3), ((c : Thread nD τ).loc cc0_scratch3) ↦{fullShare} f) := by
  unfold anyAt; rw [Memref.view_whole, View.set_whole]
theorem scratch_eq (c : Dev nD) : (Pipeline.scopedRest cfg0.spec c : sProp 𝕄) = scratch (F := F) c := by
  rw [show (Pipeline.scopedRest cfg0.spec c : sProp 𝕄) = Pipeline.scopedRest spec0 c from rfl, scopedRest0_eq]
  unfold scratch some5 some6 some7
  rw [any_scratch0, any_scratch1, any_scratch2, any_scratch3]

/-- The credit a device starts with. -/
def credit (c : Dev nD) : sProp 𝕄 :=
  iprop(cred (tallyAt (barC c) () 5) ∗ bigSep (Finset.Ico 0 30) (fun i => cred (tallyAt (rcvC i c) () N)) ∗ cred (tallyAt (secC c) () 5))
/-- What a device has of the launch, -/
def start (c : Dev nD) : sProp 𝕄 := iprop(G' m c ∗ Lev (F := F) ∗ credit (F := F) c ∗ weights m c)
/-- before its body, -/
def before₀ (c : Dev nD) : sProp 𝕄 := iprop(start m c ∗ scratch (F := F) c)
/-- and after: every cell closed, its counter at zero. -/
def after₁ (c : Dev nD) : sProp 𝕄 :=
  iprop((unscopedSems0 c ∗ weights m c) ∗ Pipeline.ownSems0 (Ix := Unit) (Name := ℕ) (U := UU) (Lvl := ℕ) (Val := Elt F) (τ := τ) osem c ∗ scratch (F := F) c)

/-- The weights still to be copied. -/
theorem idle_intro (K : Dev nD × Fin 64 → ℕ) (c : Dev nD) (q : DmaSem sig) (hq : 2 ≤ q.val) {s : Shape} {e : EltTy} (src : ℕ → Memref sig .tc .hbm s e) :
    iprop(Env m K ∗ atPos ER ((c : Thread nD τ), .dma q) 0 ∅ 0 ∗ bigSep (Finset.Ico 0 3) (fun t => dutyTok ER ((c : Thread nD τ), .dma q) t 0)
      ∗ bigSep (Finset.Ico 0 3) (fun t => hbmAt m src t c)) ⊢ Idle m q src 0 c := by
  unfold Idle
  rw [bigSep_sep', Finset.Ico_self, bigSep_empty]
  iintro ⟨#Henv, Ha, Ht, Hw⟩
  isplitl [Ha]; · iexact Ha
  isplitr; · iapply (reached_dma m K c q hq); iexact Henv
  isplitl [Ht Hw]
  · isplitl [Ht] <;> iassumption
  iempintro

/-- What a device knocks with: its tokens of the partners' barrier cells, and its own slots for them. -/
theorem knock_intro (c : Dev nD) :
    iprop(bigSep (Finset.Ico 0 5) (fun b => dutyTok ER (barC (px (Fin.ofNat 5 b) c)) 0 (Fin.ofNat 5 b)) ∗ bigSep (Finset.Ico 0 30) (fun i => slotAny (F := F) i c))
      ⊢ Knock (F := F) c 0 := by
  unfold Knock
  rw [bigSep_sep', give_bar, by_number]

/-- What the exchanges need. -/
theorem ready_intro (c : Dev nD) :
    iprop(bigSep (Finset.Ico 0 30) (fun i => dutyTok ER (sndC i c) 0 0) ∗ bigSep (Finset.Ico 0 30) (fun i => dutyTok ER (rcvC i (pa i c)) 0 0)
      ∗ bigSep (Finset.Ico 0 30) (fun i => atPos ER (sndC i c) 0 ∅ 0) ∗ bigSep (Finset.Ico 0 30) (fun i => atPos ER (rcvC i c) 0 ∅ 0)
      ∗ bigSep (Finset.Ico 0 30) (fun i => cred (tallyAt (rcvC i c) () N))) ⊢ bigSep (Finset.Ico 0 30) (fun i => Ready (F := F) i c) := by
  unfold Ready
  simp only [bigSep_sep']
  exact BI.Entails.refl _

theorem start_body (K : Dev nD × Fin 64 → ℕ) (c : Dev nD) :
    iprop(Env m K ∗ Owe (F := F) c 0 0 0 ∗ linear (F := F) c ∗ credit (F := F) c ∗ weights m c ∗ scratch (F := F) c
      ∗ owns (c : Thread nD τ) xM fullShare (xstg m c) ∗ anyAt (F := F) oM c) ⊢ Start m c := by
  unfold linear positions payToks credit scratch Start AtBar AtSec Done
  rw [Finset.Ico_self, bigSep_empty]
  iintro ⟨#Henv, HO, ⟨⟨HaB, HaS, HaI, HaO, HaSs, HaRs⟩, HtB, HtS, HtI, HtO, HtSs, HtRs⟩, ⟨HcB, HcRs, HcS⟩, Hw, ⟨Hwi, Hwo, Hwib, Hwob, H5, H6, H7⟩, Hx, Ho⟩
  ihave Hw2 := (weights_open m c) $$ Hw
  icases Hw2 with ⟨HwI, HwO⟩
  ihave Hs := (slots_open (F := F) c) $$ [H6 H7]
  · isplitl [H6] <;> iassumption
  ihave H52 := (send_open (F := F) c) $$ H5
  icases H52 with ⟨HsA, HsB⟩
  isplitl [HO]; · iexact HO
  isplitl [HtB Hs]
  · iapply (knock_intro (F := F) c)
    isplitl [HtB] <;> iassumption
  isplitl [HaB HcB]
  · isplitl [HaB] <;> iassumption
  isplitl [HtSs HtRs HaSs HaRs HcRs]
  · iapply (ready_intro (F := F) c)
    isplitl [HtSs]; · iexact HtSs
    isplitl [HtRs]; · iexact HtRs
    isplitl [HaSs]; · iexact HaSs
    isplitl [HaRs] <;> iassumption
  isplitr; · iempintro
  isplitl [HsA]; · iexact HsA
  isplitl [HsB]; · iexact HsB
  isplitl [Hwi]; · iexact Hwi
  isplitl [HaI HtI HwI]
  · iapply (idle_intro m K c cpiD (by decide) winM)
    isplitr; · iexact Henv
    isplitl [HaI]; · iexact HaI
    isplitl [HtI]; · iexact HtI
    iexact HwI
  isplitl [Hwo]; · iexact Hwo
  isplitl [HaO HtO HwO]
  · iapply (idle_intro m K c cpoD (by decide) woutM)
    isplitr; · iexact Henv
    isplitl [HaO]; · iexact HaO
    isplitl [HtO]; · iexact HtO
    iexact HwO
  isplitl [Hwib]; · iexact Hwib
  isplitl [Hwob]; · iexact Hwob
  isplitl [Hx]; · iexact Hx
  isplitl [Ho]; · iexact Ho
  isplitl [HtS]; · iexact HtS
  isplitl [HaS] <;> iassumption

/-- What the body leaves, as the launch takes it back. -/
theorem end_body (c : Dev nD) :
    Finish m c ⊢ iprop(after₁ m c ∗ Owe (F := F) c 5 30 5 ∗ owns (c : Thread nD τ) xM fullShare (xstg m c) ∗ owns (c : Thread nD τ) oM fullShare (outAt m c)) := by
  unfold Finish after₁ scratch Done
  rw [bigSep_sep', bigSep_sep']
  iintro ⟨HO, HzB, ⟨HzS, HzR, Hs⟩, HsA, HsB, Hwi, HzI, HwI, Hwo, HzO, HwO, Hwib, Hwob, Hx, Ho, HzC⟩
  ihave Hw := (weights_close m c) $$ [HwI HwO]
  · isplitl [HwI] <;> iassumption
  ihave H67 := (slots_close m c) $$ Hs
  icases H67 with ⟨H6, H7⟩
  ihave H5 := (send_close m c) $$ [HsA HsB]
  · isplitl [HsA] <;> iassumption
  ihave Hz := (Entails.of_eq (by_kcell (F := F) (fun g => semVal g 0) c).symm) $$ [HzB HzC HzI HzO HzS HzR]
  · isplitl [HzB]; · iexact HzB
    isplitl [HzC]; · iexact HzC
    isplitl [HzI]; · iexact HzI
    isplitl [HzO]; · iexact HzO
    isplitl [HzS] <;> iassumption
  ihave Hz2 := (Entails.of_eq (cells_sems (F := F) c)) $$ Hz
  icases Hz2 with ⟨Hu, Hown⟩
  isplitr [HO Hx Ho]
  · isplitl [Hu Hw]
    · isplitl [Hu] <;> iassumption
    isplitl [Hown]; · iexact Hown
    isplitl [Hwi]; · iapply (owns_any (F := F) c wiM _); iexact Hwi
    isplitl [Hwo]; · iapply (owns_any (F := F) c woM _); iexact Hwo
    isplitl [Hwib]; · iapply (owns_any (F := F) c wibM _); iexact Hwib
    isplitl [Hwob]; · iapply (owns_any (F := F) c wobM _); iexact Hwob
    isplitl [H5]; · iexact H5
    isplitl [H6] <;> iassumption
  isplitl [HO]; · iexact HO
  isplitl [Hx] <;> iassumption

/-! ## The pipeline's data -/

variable (ρ : Dev nD → PrngReg)

/-- The memory at launch: arbitrary contents, every semaphore counter zero. -/
def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => before₀ m c
    | ⟨_ + 1, _⟩ => after₁ m c
  q _ := fullShare
  owed t := match t with
    | ⟨0, _⟩ => owed c 0 0 0
    | ⟨_ + 1, _⟩ => 0

theorem two_windows (Φ : Fin cfg0.W → sProp 𝕄) : bigSep Finset.univ Φ = iprop(Φ (0 : Fin 2) ∗ Φ (1 : Fin 2)) := bigSep_W0 Φ

theorem fetch_x (t : Fin cfg0.N) : (cfg0.win (0 : Fin 2)).fetch t = true := by rw [fin_N0 t]; rfl

/-- A staging buffer holding a block, as the pipeline states it. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_whole_eq (c : Dev nD) (b : Ref sig .tc) (X : b.ty.Contents (Elt F)) :
    (owns (c : Thread nD τ) (Memref.whole b) fullShare X : sProp 𝕄)
      = staged c b X := by
  unfold owns; simp only [Memref.view_whole, View.read_whole, View.set_whole]

set_option maxRecDepth 4000 in
def bodyPre (c : Dev nD) : sProp 𝕄 :=
  iprop(before₀ m c ∗ (dats m ρ 0 c).owesAt () (Fin.castSucc (n := cfg0.N) t0_0)
    ∗ (∃ d, staged (F := F) c cc0_stg0_0 ((dats m ρ 0 c).before (0 : Fin 2) t0_0 d))
    ∗ (∃ d, staged (F := F) c cc0_stg1_0 ((dats m ρ 0 c).before (1 : Fin 2) t0_0 d)))
set_option maxRecDepth 4000 in
def bodyPost (c : Dev nD) : sProp 𝕄 :=
  iprop(after₁ m c ∗ (dats m ρ 0 c).owesAt () (Fin.succ (n := cfg0.N) t0_0)
    ∗ staged (F := F) c cc0_stg0_0 (xstg m c) ∗ staged (F := F) c cc0_stg1_0 (outAt m c))

theorem body_one (c : Dev nD) : bodyPre m ρ c ⊢ wpc c (onBuffers (cc0_body (F := F))) (fun _ => bodyPost m ρ c) := by
  unfold bodyPre before₀ start G' Dat.owesAt Pipeline.owesWithin
  iintro ⟨⟨⟨⟨%K, #HR, Hlin⟩, #Hlev, Hcr, Hw⟩, Hsc⟩, ⟨%W, %hW, HO⟩, ⟨%d0, Hx'⟩, ⟨%d1, Ho'⟩⟩
  ihave Hx := (Entails.of_eq (owns_whole_eq (F := F) c cc0_stg0_0 _).symm) $$ Hx'
  ihave Ho := (Entails.of_eq (owns_whole_eq (F := F) c cc0_stg1_0 _).symm) $$ Ho'
  have hx : (dats m ρ 0 c).before (0 : Fin 2) t0_0 d0 = xstg m c := by unfold Dat.before; rw [if_pos (fetch_x t0_0)]; rfl
  rw [hx, show (dats m ρ 0 c).owed (Fin.castSucc (n := cfg0.N) t0_0) = owed c 0 0 0 from rfl]
  iapply (wp_wand_r frame _ Set.univ)
  isplitl
  · iapply (body_runs m K c)
    isplitr
    · unfold Env; isplitl <;> iassumption
    iapply (start_body m K c)
    isplitr
    · unfold Env; isplitl <;> iassumption
    isplitl [HO]; · unfold Owe; iexists W; iexact HO
    isplitl [Hlin]; · iexact Hlin
    isplitl [Hcr]; · iexact Hcr
    isplitl [Hw]; · iexact Hw
    isplitl [Hsc]; · iexact Hsc
    isplitl [Hx]; · iexact Hx
    iapply (owns_any (F := F) c oM _); iexact Ho
  · iintro %_ H
    ihave H2 := (end_body m c) $$ H
    unfold bodyPost Dat.owesAt Pipeline.owesWithin Owe
    rw [← owns_whole_eq (F := F) c cc0_stg0_0, ← owns_whole_eq (F := F) c cc0_stg1_0]
    icases H2 with ⟨H1, ⟨%W', HO⟩, H2⟩
    rw [show (dats m ρ 0 c).owed (Fin.succ (n := cfg0.N) t0_0) = 0 from rfl, owed_end]
    isplitl [H1]; · iexact H1
    isplitl [HO]
    · iexists W'
      isplitr; · ipureintro; exact fun _ _ => Or.inl trivial
      iexact HO
    iexact H2

set_option maxRecDepth 100000 in
/-- The pipeline's obligation of the body. -/
theorem body_obligation (c : Dev nD) : BodyObligation (dats (F := F) m ρ 0 c) (defs₀ (F := F)) 𝒱₀ () Set.univ := fun t => by
  rw [fin_N0 t]
  rw [two_windows, two_windows]
  simp only [owns_whole_eq]
  have a1 : (dats m ρ 0 c).Φ (Fin.castSucc (n := cfg0.N) t0_0) = before₀ m c := rfl
  have a2 : (dats m ρ 0 c).Φ (Fin.succ (n := cfg0.N) t0_0) = after₁ m c := rfl
  have a3 : (dats m ρ 0 c).after (0 : Fin 2) t0_0 = xstg m c := rfl
  have a4 : (dats m ρ 0 c).after (1 : Fin 2) t0_0 = outAt m c := rfl
  have a5 : defs₀ (F := F) Proc.tc 0 (t0_0, cfg0.slots t0_0) = onBuffers (cc0_body (F := F)) := rfl
  rw [a5]
  refine BI.Entails.trans (Q := bodyPre m ρ c) ?_ ((body_one m ρ c).trans
    ((wp frame (wpE (defs₀ (F := F)) 𝒱₀ (c : Thread nD τ) none) Set.univ (onBuffers (cc0_body (F := F)))).mono fun _ => ?_))
  · unfold bodyPre
    exact BI.Entails.refl _
  · unfold bodyPost
    exact BI.Entails.refl _

/-! ## The launch -/

theorem ownSemFacts : Pipeline.OwnSemFacts cfg0.spec osem := by decide +kernel

theorem share_full (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem launch_funds :
    (ownU u₀ : sProp 𝕄)
      ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_cells m) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred (fun d => owed d 0 0 0) c ∗ prngReg c (ρ c) ∗ G' m c)
      ⊢ |={Set.univ}=> iprop(start m c ∗ emp) := by
  rw [Pipeline.unscopedRestP_none]
  unfold start weights Lev credit
  iintro ⟨Hw, Hlev, Hcr, -, HG⟩
  ihave Hc := (credits (F := F) c) $$ Hcr
  imodintro
  isplitl
  · isplitl [HG]; · iexact HG
    isplitl [Hlev]; · iexact Hlev
    isplitl [Hc]; · iexact Hc
    iexact Hw
  · iempintro

theorem before_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m c from rfl, scratch_eq]
  unfold before₀
  iintro ⟨Hs, -, Hr⟩
  isplitl [Hs] <;> iassumption

theorem after_exit (c : Dev nD) :
    (dats m ρ 0 c).Φ (Fin.last cfg0.N)
      ⊢ iprop((unscopedSems0 c ∗ weights m c) ∗ Pipeline.ownSems0 osem c ∗ Pipeline.scopedRest cfg0.spec c) := by
  rw [show (dats m ρ 0 c).Φ (Fin.last cfg0.N) = after₁ m c from rfl, scratch_eq]
  exact BI.Entails.refl _

theorem waits (c : Dev nD) : (levAts L lv : sProp 𝕄) ⊢ Pipeline.cellsWaits cfgs (dats m ρ) () 0 c :=
  Pipeline.cellsWaits_intro cfgs (dats m ρ) () 0 c fun w s t => by
    have hq : lvOf (.dma (((cfgs 0).win w).sem s)) = 0 := lv_low (by fin_cases w <;> fin_cases s <;> decide)
    rcases t with ⟨_ | _, ht⟩
    · exact mayWait c _ (j := 0) (n := 0) (s := 0) (fun _ => by rw [hq]; decide) (fun _ => by rw [hq]; decide) (fun _ => by rw [hq]; decide)
    · show _ ⊢ MayWait (c : Thread nD τ) _ () 0
      rw [MayWait_zero]; iintro -; iempintro

/-! ## The run -/

/-- The unscoped buffers that are no window's array: the six weights. -/
abbrev weightRefs : Finset (Ref sig .tc) := (Finset.univ.filter fun b : Ref sig .tc => ¬ b.isScoped) \ Finset.univ.image (Pipeline.arrRef cfg0.spec)

/-- What the final memory holds on a device: the result array at the computed block, the input's as it was, and the weights as they were. -/
def Ends (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ ∀ b ∈ weightRefs, r.2.mem ((c : Thread nD τ).loc b) = m ((c : Thread nD τ).loc b)

set_option maxRecDepth 20000 in
/-- From any memory with zero counters, every weakly fair execution ends, with the final memory as said and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := fun d => owed d 0 0 0) (howed₀ := fun _ => rfl) (howedN := fun _ => rfl)
    (L := L) (lv := lv) (hL := L_of_ne) (hwaits := waits m ρ)
    (G := G m) (G' := G' m) (u₀ := u₀)
    (hu₀ := launch_funds m)
    (hglob := all_dealt m)
    (hA := fun _ _ => rfl) (hpf := fun _ k => k.elim0)
    (X := start m) (Y := fun c => iprop(unscopedSems0 c ∗ weights m c)) (Z := fun _ => iprop(emp))
    (hX := start_intro m ρ) (hin := before_intro m ρ) (hout := after_exit m ρ)
    (QY := fun c s => (∀ b ∈ weightRefs, s.mem ((c : Thread nD τ).loc b) = m ((c : Thread nD τ).loc b))
      ∧ ∀ sm : SemLoc sig, sm.isScoped .tc = false → s.sem ((c.tc : Thread nD τ), sm) = 0)
    (hY := fun c s' => by
      unfold weights Pipeline.unscopedRest
      iintro ⟨⟨Hu, Hw⟩, -, HSI⟩
      ihave H := (pointsTo_read_all weightRefs (fun b => (c : Thread nD τ).loc b) (fun b => m ((c : Thread nD τ).loc b)) s') $$ [Hw HSI]
      · isplitl [Hw] <;> iassumption
      icases H with ⟨%hw, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hw, hu⟩
      iexact HSI)
    (hQ := fun _ h hs => ⟨fun c => ⟨fun w => (h c).1 w, (h c).2.2.1⟩, sem_eq_zero hs fun c => (h c).2.2.2⟩)

end Cert.Mlp

end
-- ==== Proof.Frames.lean ====
/-
The run read back: the arguments end as they were, and the result array holds the block its device
computed; from which the frames of the kernel and of its idealization.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Mlp

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- Every argument of device `c` is as it was. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)

theorem Ends.kept {r : PUnit × MemSt nD τ sig (Elt F)} (h : Ends m ρ r) (c : Dev nD) : Kept m r c :=
  ⟨((h c).1 (0 : Fin 2)).trans ((dats m ρ 0 c).arrAt_in (0 : Fin 2) rfl _),
    (h c).2 main_arg1 (by decide), (h c).2 main_arg2 (by decide), (h c).2 main_arg3 (by decide),
    (h c).2 main_arg4 (by decide), (h c).2 main_arg5 (by decide), (h c).2 main_arg6 (by decide)⟩

theorem out_read (c : Dev nD) : (win0_1.blk (0 : Fin 1)).view.read (Elt F) ((dats m ρ 0 c).arrAt (1 : Fin 2) cfg0.N) = outAt m c := by
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The windows' one block is the whole array. -/
theorem out_whole (f : main_v1.ty.Contents (Elt F)) : (win0_1.blk (0 : Fin 1)).view.read (Elt F) f = f :=
  Memref.read_access_unit_zero (Elt F) main_v1 (funext fun a => by fin_cases a <;> decide) (fun a => by fin_cases a <;> decide) f
theorem in_whole (f : main_arg0.ty.Contents (Elt F)) : (win0_0.blk (0 : Fin 1)).view.read (Elt F) f = f :=
  Memref.read_access_unit_zero (Elt F) main_arg0 (funext fun a => by fin_cases a <;> decide) (fun a => by fin_cases a <;> decide) f

theorem Ends.result {r : PUnit × MemSt nD τ sig (Elt F)} (h : Ends m ρ r) (c : Dev nD) :
    r.2.mem ((c.tc : Thread nD τ).loc main_v1) = outAt m c :=
  ((h c).1 (1 : Fin 2)).trans ((out_whole _).symm.trans (out_read m ρ c))

/-- The run: the arguments are kept and every counter ends at zero. -/
theorem run_kept : θ_run (defs (F := F)) (onTc (τ := τ) (main (F := F))) ⟨m, fun _ => 0, ρ⟩
    (fun r => (∀ c : Dev nD, Kept m r c) ∧ r.2.sem = fun _ => 0) :=
  (θ_run (defs (F := F)) _ _).mono (fun _ h => ⟨fun c => h.1.kept m ρ c, h.2⟩) (run_main m ρ)

/-- The kernel's text is its idealization's: the same bodies, -/
theorem same_bodies : Cert.Kernel.defs₀ (F := Bits) = defs₀ (F := Bits) := by
  unfold Cert.Kernel.defs₀ Cert.KernelIdeal.defs₀
  congr 1
  funext ℓ x
  match ℓ, x with
  | ⟨0, _⟩, (t, s) => rfl
/-- and the same pipeline around them. -/
theorem same_defs : Cert.Kernel.defs (F := Bits) = defs (F := Bits) := by
  unfold Cert.Kernel.defs Cert.KernelIdeal.defs
  rw [same_bodies]
  rfl

/-- The kernel at bit patterns: its run is the run at that interpretation. -/
theorem frame_kernel : Cert.quiescent_Kernel := fun m ρ _ => by
  rw [same_defs]
  exact run_kept (F := Bits) m ρ

/-- The kernel in exact arithmetic. -/
theorem frame_ideal : Cert.quiescent_KernelIdeal := fun m ρ _ => run_kept (F := Ideal) m ρ

/-- The reference is a sequence of host operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mlp

end
-- ==== Proof.Hypercube.lean ====
/-
Five exchanges across the five bits of the device number add up what all 32 devices started from,
in whatever order the bits are taken.
-/
module

public import proofs.«01_k».proof.Proof.Contents
public import Mathlib.Algebra.BigOperators.Group.Finset.Basic

@[expose] public section

noncomputable section

namespace Cert.Mlp

open Cert.KernelIdeal
open Idealize.ShloMosaic

/-- What device `c` holds after `s` exchanges with the partners across the bits `b 0`, `b 1`, …: each
    time its own and its partner's. -/
def exchanged {A : Type} [Add A] (b : ℕ → Fin 5) (v : Dev nD → A) : ℕ → Dev nD → A
  | 0, c => v c
  | s + 1, c => exchanged b v s c + exchanged b v s (px (b s) c)

/-- The devices whose contributions are in it. -/
def reached (b : ℕ → Fin 5) : ℕ → Dev nD → Finset (Dev nD)
  | 0, c => {c}
  | s + 1, c => reached b s c ∪ reached b s (px (b s) c)

theorem exchanged_eq_sum {A : Type} [AddCommMonoid A] (b : ℕ → Fin 5) (v : Dev nD → A) (n : ℕ)
    (hd : ∀ s < n, ∀ c, Disjoint (reached b s c) (reached b s (px (b s) c))) :
    ∀ s ≤ n, ∀ c, exchanged b v s c = ∑ d ∈ reached b s c, v d
  | 0, _, c => by simp [exchanged, reached]
  | s + 1, hs, c => by
    rw [exchanged, reached, Finset.sum_union (hd s hs c), exchanged_eq_sum b v n hd s (by omega) c,
      exchanged_eq_sum b v n hd s (by omega) _]

/-- The order in which half `h` takes the bits. -/
abbrev bitsOf (h : ℕ) (s : ℕ) : Fin 5 := bitOf (2 * s + h)

theorem apart : ∀ h < 2, ∀ s < 5, ∀ c, Disjoint (reached (bitsOf h) s c) (reached (bitsOf h) s (px (bitsOf h s) c)) := by
  decide +kernel
theorem all_reached : ∀ h < 2, ∀ c, reached (bitsOf h) 5 c = Finset.univ := by
  decide +kernel

/-- Five exchanges of either half make the sum over all devices. -/
theorem exchanged_all {A : Type} [AddCommMonoid A] (v : Dev nD → A) (h : ℕ) (hh : h < 2) (c : Dev nD) :
    exchanged (bitsOf h) v 5 c = ∑ d, v d := by
  rw [exchanged_eq_sum (bitsOf h) v 5 (apart h hh) 5 le_rfl c, all_reached h hh c]

end Cert.Mlp

end
-- ==== Proof.Products.lean ====
/-
Over the extended reals: the kernel's products and exchanges read at an element.
-/
module

public import proofs.«01_k».proof.Proof.Hypercube
public import Idealize.ShloMosaic.Lib.Pointwise

@[expose] public section

set_option maxRecDepth 16384

noncomputable section

namespace Cert.Mlp

open Cert.KernelIdeal Cert.KernelIdeal.Gen
open Idealize.ShloMosaic

/-- A product is a plain sum over the contracted index. -/
theorem mm_at (a : FVec Ideal S64x1024 .bf16) (w : FVec Ideal S1024x1024 .bf16) (r : Fin 64) (j : Fin 1024) :
    mm a w (ix2 r j) = ∑ k : Fin 1024, a (ix2 r k) * w (ix2 k j) := by
  pointwise [mm]

/-- Column `j` of half `h` is column `1024 h + j`, -/
theorem cols_at (h : ℕ) (hh : h < 2) (w : FVec Ideal S1024x2048 .bf16) (k j : Fin 1024) :
    cols h w (ix2 k j) = w (ix2 k ⟨1024 * h + j.val, by omega⟩) := by
  unfold cols
  rw [View.read_apply]
  refine congrArg w (funext fun a => Fin.ext ?_)
  match a with
  | ⟨0, _⟩ => show 0 + 1 * k.val = k.val; omega
  | ⟨1, _⟩ => show 1024 * (h % 2) + 1 * j.val = 1024 * h + j.val; rw [Nat.mod_eq_of_lt hh]; omega
/-- and row `k` of half `h` is row `1024 h + k`. -/
theorem rows_at (h : ℕ) (hh : h < 2) (w : FVec Ideal S2048x1024 .bf16) (k j : Fin 1024) :
    rows h w (ix2 k j) = w (ix2 ⟨1024 * h + k.val, by omega⟩ j) := by
  unfold rows
  rw [View.read_apply]
  refine congrArg w (funext fun a => Fin.ext ?_)
  match a with
  | ⟨0, _⟩ => show 1024 * (h % 2) + 1 * k.val = 1024 * h + k.val; rw [Nat.mod_eq_of_lt hh]; omega
  | ⟨1, _⟩ => show 0 + 1 * j.val = j.val; omega

/-- An exchange adds the partner's block to a device's own: the change of format does nothing. -/
theorem joined_sent_at (a b : FVec Ideal S64x1024 .f32) (r : Fin 64) (j : Fin 1024) :
    joined a (sent b) (ix2 r j) = (a (ix2 r j) + b (ix2 r j) : EReal) := by
  pointwise [joined, sent]

/-- The positive part. -/
theorem actv_at (a : FVec Ideal S64x1024 .f32) (r : Fin 64) (j : Fin 1024) :
    actv a (ix2 r j) = (max (a (ix2 r j)) 0 : EReal) := by
  pointwise [actv]

/-- What a device holds of half `h` after the exchanges is, element by element, the exchange of elements. -/
theorem acc_at (X : Dev nD → FVec Ideal S64x1024 .bf16) (W : Dev nD → FVec Ideal S1024x2048 .bf16) (h : ℕ) (r : Fin 64) (j : Fin 1024) :
    ∀ (s : ℕ) (c : Dev nD), acc X W h s c (ix2 r j)
      = exchanged (A := EReal) (bitsOf h) (fun d => mm (X d) (cols h (W d)) (ix2 r j)) s c
  | 0, _ => rfl
  | s + 1, c => by
    rw [acc_succ, joined_sent_at, acc_at X W h r j s c, acc_at X W h r j s _]
    rfl

/-- After the five exchanges of a layer, column `1024 h + j` of the sum over all devices. -/
theorem acc_all (X : Dev nD → FVec Ideal S64x1024 .bf16) (W : Dev nD → FVec Ideal S1024x2048 .bf16) (h : ℕ) (hh : h < 2)
    (r : Fin 64) (j : Fin 1024) (c : Dev nD) :
    acc X W h 5 c (ix2 r j)
      = ∑ d : Dev nD, ∑ k : Fin 1024, (X d (ix2 r k) * W d (ix2 k ⟨1024 * h + j.val, by omega⟩) : EReal) := by
  rw [acc_at, exchanged_all _ h hh c]
  refine Finset.sum_congr rfl fun d _ => ?_
  rw [mm_at]
  exact Finset.sum_congr rfl fun k _ => by rw [cols_at h hh]

end Cert.Mlp

end
-- ==== Proof.Blocks.lean ====
/-
One layer: where every device's input and weights are its blocks of whole arrays, what it computes is
its block of the reference's layer on the whole arrays.
-/
module

public import proofs.«01_k».proof.Proof.Products
public import proofs.«01_k».proof.Proof.Gen.ReferenceIdeal
public import Idealize.ShloMosaic.Lib.Pipeline.ValueKit

@[expose] public section

set_option maxRecDepth 16384

noncomputable section

namespace Cert.Mlp

open Cert.KernelIdeal
open Idealize.ShloMosaic

/-- A layer of the reference. -/
def layer (X : FVec Ideal ReferenceIdeal.S64x32768 .f32) (W : FVec Ideal ReferenceIdeal.S32768x2048 .f32)
    (V : FVec Ideal ReferenceIdeal.S2048x32768 .f32) : FVec Ideal ReferenceIdeal.S64x32768 .f32 :=
  Host.dotGeneral ReferenceIdeal.dot_S64x2048_S2048x32768_S64x32768_1_0_0_1_n_n none
    (maximumf (Host.dotGeneral ReferenceIdeal.dot_S64x32768_S32768x2048_S64x2048_1_0_0_1_n_n none X W)
      (broadcastInDim ReferenceIdeal.S64x2048 ![] ReferenceIdeal.Facts₀.bcast_S_S64x2048 (constant ReferenceIdeal.S_ .f32 0x00000000#32))) V

theorem layer_at (X : FVec Ideal ReferenceIdeal.S64x32768 .f32) (W : FVec Ideal ReferenceIdeal.S32768x2048 .f32)
    (V : FVec Ideal ReferenceIdeal.S2048x32768 .f32) (r : Fin 64) (l : Fin 32768) :
    layer X W V (ix2 r l)
      = ∑ j : Fin 2048, (max (∑ K : Fin 32768, X (ix2 r K) * W (ix2 K j)) 0 * V (ix2 j l) : EReal) := by
  pointwise [layer]

/-- Place `k` of block `c` of 32 blocks of 1024. -/
def place (c : Dev nD) (k : Fin 1024) : Fin 32768 := ⟨c.val * 1024 + k.val, by have := c.isLt; have : nD = 32 := rfl; omega⟩

/-- Every device holds its block of the columns, or of the rows, of a whole array. -/
def ColBlocks {n : ℕ} {φ ψ : FTy} (x : Dev nD → FVec Ideal ⟨2, ![n, 1024]⟩ φ) (X : FVec Ideal ⟨2, ![n, 32768]⟩ ψ) : Prop :=
  ∀ c r k, x c (ix2 r k) = (X (ix2 r (place c k)) : EReal)
def RowBlocks {n : ℕ} {φ ψ : FTy} (x : Dev nD → FVec Ideal ⟨2, ![1024, n]⟩ φ) (X : FVec Ideal ⟨2, ![32768, n]⟩ ψ) : Prop :=
  ∀ c k j, x c (ix2 k j) = (X (ix2 (place c k) j) : EReal)

variable {x : Dev nD → FVec Ideal S64x1024 .bf16} {w : Dev nD → FVec Ideal S1024x2048 .bf16} {v : Dev nD → FVec Ideal S2048x1024 .bf16}
  {X : FVec Ideal ReferenceIdeal.S64x32768 .f32} {W : FVec Ideal ReferenceIdeal.S32768x2048 .f32} {V : FVec Ideal ReferenceIdeal.S2048x32768 .f32}

/-- The sum over the devices of sums over their blocks is the reference's first product. -/
theorem hidden (hx : ColBlocks x X) (hw : RowBlocks w W) (h : ℕ) (hh : h < 2) (r : Fin 64) (j : Fin 1024) (c : Dev nD) :
    acc x w h 5 c (ix2 r j) = ∑ K : Fin 32768, (X (ix2 r K) * W (ix2 K ⟨1024 * h + j.val, by omega⟩) : EReal) := by
  rw [acc_all x w h hh r j c]
  refine Eq.trans ?_ (Fin.sum_mul_add_fin 32 1024 (fun K : Fin 32768 => (X (ix2 r K) * W (ix2 K ⟨1024 * h + j.val, by omega⟩) : EReal)) rfl)
  refine Finset.sum_congr rfl fun d _ => Finset.sum_congr rfl fun k _ => ?_
  rw [hx d r k, hw d k _]
  rfl

/-- What a device computes in a layer is its block of the reference's layer. -/
theorem lout_blocks (hx : ColBlocks x X) (hw : RowBlocks w W) (hv : ColBlocks v V) : ColBlocks (lout x w v) (layer X W V) := fun c r l => by
  have half : ∀ h (hh : h < 2), mm (actv (acc x w h 5 c)) (rows h (v c)) (ix2 r l)
      = ∑ j : Fin 1024, (max (∑ K : Fin 32768, X (ix2 r K) * W (ix2 K ⟨1024 * h + j.val, by omega⟩)) 0
          * V (ix2 ⟨1024 * h + j.val, by omega⟩ (place c l)) : EReal) := fun h hh => by
    rw [mm_at]
    refine Finset.sum_congr rfl fun j _ => ?_
    rw [actv_at, hidden hx hw h hh r j c, rows_at h hh, hv c _ l]
  rw [layer_at, Fin.sum_univ_two_halves 1024 1024 rfl]
  show (mm (actv (acc x w 0 5 c)) (rows 0 (v c)) (ix2 r l) + mm (actv (acc x w 1 5 c)) (rows 1 (v c)) (ix2 r l) : EReal) = _
  rw [half 0 (by decide), half 1 (by decide)]
  simp only [Nat.mul_zero, Nat.zero_add, Nat.mul_one]

end Cert.Mlp

end
-- ==== Proof.Value.lean ====
/-
The value: three layers on a device's blocks are the device's block of the reference's three layers,
and so the claim that the kernel and the reference compute the same.
-/
module

public import proofs.«01_k».proof.Proof.Frames
public import proofs.«01_k».proof.Proof.Blocks

@[expose] public section

set_option maxRecDepth 16384

noncomputable section

namespace Cert.Mlp

open Cert.KernelIdeal Cert.KernelIdeal.Gen
open Idealize.ShloMosaic
open Idealize.ShloMosaic.TcCoe
open Idealize.SL.Sem

/-! ## Blocks of whole arrays -/

theorem block_cols_at {n : ℕ} {φ : FTy} (X : FVec Ideal ⟨2, ![n, 32768]⟩ φ) (h : Layout.Tiles ⟨2, ![n, 1024]⟩ ⟨2, ![n, 32768]⟩ 1 32)
    (c : Dev nD) (r : Fin n) (k : Fin 1024) :
    Layout.block ⟨2, ![n, 1024]⟩ ⟨2, ![n, 32768]⟩ 1 32 c X h (ix2 r k) = X (ix2 r (place c k)) := by
  rw [Layout.block_apply]
  refine congrArg X (funext fun a => Fin.ext ?_)
  match a with
  | ⟨0, _⟩ => rfl
  | ⟨1, _⟩ => rfl
theorem block_rows_at {n : ℕ} {φ : FTy} (X : FVec Ideal ⟨2, ![32768, n]⟩ φ) (h : Layout.Tiles ⟨2, ![1024, n]⟩ ⟨2, ![32768, n]⟩ 0 32)
    (c : Dev nD) (k : Fin 1024) (j : Fin n) :
    Layout.block ⟨2, ![1024, n]⟩ ⟨2, ![32768, n]⟩ 0 32 c X h (ix2 k j) = X (ix2 (place c k) j) := by
  rw [Layout.block_apply]
  refine congrArg X (funext fun a => Fin.ext ?_)
  match a with
  | ⟨0, _⟩ => rfl
  | ⟨1, _⟩ => rfl

/-- Blocks that agree with a whole array's are its blocks. -/
theorem block_of_cols {φ : FTy} {x : Dev nD → FVec Ideal ⟨2, ![64, 1024]⟩ φ} {X : FVec Ideal ⟨2, ![64, 32768]⟩ φ} (h : ColBlocks x X) (c : Dev nD) :
    x c = Layout.block ⟨2, ![64, 1024]⟩ ⟨2, ![64, 32768]⟩ 1 32 c X := by
  funext i
  rw [eq_ix2 i]
  exact (h c _ _).trans (block_cols_at X _ c _ _).symm

/-! ## The kernel's arrays -/

variable (m : (ℓ : Loc nD τ sig) → Buf (Elt Ideal) ℓ)

/-- The weights in bf16 are, element by element, the weights. -/
theorem winB_at (l : ℕ) (c : Dev nD) (k : Fin 1024) (j : Fin 2048) : winB m l c (ix2 k j) = (winAt m l c (ix2 k j) : EReal) := by
  pointwise [winB]
theorem woutB_at (l : ℕ) (c : Dev nD) (k : Fin 2048) (j : Fin 1024) : woutB m l c (ix2 k j) = (woutAt m l c (ix2 k j) : EReal) := by
  pointwise [woutB]
/-- The first layer's input is the first argument. -/
theorem xin_zero_at (c : Dev nD) (r : Fin 64) (k : Fin 1024) :
    xin m 0 c (ix2 r k) = (m ((c.tc : Thread nD τ).loc main_arg0) (ix2 r k) : EReal) := by
  rw [xin_zero, show xstg m c = m ((c.tc : Thread nD τ).loc main_arg0) from in_whole _]
  pointwise
/-- A later layer's input is the result of the one before. -/
theorem xin_blocks {l : ℕ} {X : FVec Ideal ReferenceIdeal.S64x32768 .f32} (h : ColBlocks (lout (xin m l) (winB m l) (woutB m l)) X) :
    ColBlocks (xin m (l + 1)) X := fun c r k => h c r k

/-- The reference on the whole arrays. -/
def whole (X : FVec Ideal ReferenceIdeal.S64x32768 .f32) (W₀ W₁ W₂ : FVec Ideal ReferenceIdeal.S32768x2048 .f32)
    (V₀ V₁ V₂ : FVec Ideal ReferenceIdeal.S2048x32768 .f32) : FVec Ideal ReferenceIdeal.S64x32768 .f32 :=
  layer (layer (layer X W₀ V₀) W₁ V₁) W₂ V₂

/-- Where every device holds its blocks of the arguments, its result is its block of the reference's. -/
theorem out_blocks {X : FVec Ideal ReferenceIdeal.S64x32768 .f32} {W₀ W₁ W₂ : FVec Ideal ReferenceIdeal.S32768x2048 .f32}
    {V₀ V₁ V₂ : FVec Ideal ReferenceIdeal.S2048x32768 .f32} (hx : ColBlocks (xin m 0) X)
    (hw₀ : RowBlocks (winB m 0) W₀) (hw₁ : RowBlocks (winB m 1) W₁) (hw₂ : RowBlocks (winB m 2) W₂)
    (hv₀ : ColBlocks (woutB m 0) V₀) (hv₁ : ColBlocks (woutB m 1) V₁) (hv₂ : ColBlocks (woutB m 2) V₂) :
    ColBlocks (outAt m) (whole X W₀ W₁ W₂ V₀ V₁ V₂) :=
  lout_blocks (xin_blocks m (lout_blocks (xin_blocks m (lout_blocks hx hw₀ hv₀)) hw₁ hv₁)) hw₂ hv₂

/-! ## The claim -/

/-- Over the extended reals the kernel and the reference compute the same: device `c` ends with block `c` of the reference's result. -/
theorem same_value : Cert.algebraic_KernelIdeal_ReferenceIdeal := by
  intro m ρ m' ρ' _ hm
  refine ⟨whole (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1))
    (m' (((0 : Dev ReferenceIdeal.nD).tc : Thread ReferenceIdeal.nD ReferenceIdeal.τ).loc ReferenceIdeal.main_arg3))
    (m' (((0 : Dev ReferenceIdeal.nD).tc : Thread ReferenceIdeal.nD ReferenceIdeal.τ).loc ReferenceIdeal.main_arg5))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg4))
    (m' (((0 : Dev ReferenceIdeal.nD).tc : Thread ReferenceIdeal.nD ReferenceIdeal.τ).loc ReferenceIdeal.main_arg6)), ?_, ?_⟩
  · refine (θ_run (Cert.KernelIdeal.defs (F := Ideal)) _ _).mono (fun r h c => ⟨(h.1.result m ρ c).trans ?_, h.1.kept m ρ c⟩) (run_main (F := Ideal) m ρ)
    refine block_of_cols (out_blocks m (fun c r k => ?_) (fun c k j => ?_) (fun c k j => ?_) (fun c k j => ?_)
      (fun c k j => ?_) (fun c k j => ?_) (fun c k j => ?_)) c
    · rw [xin_zero_at, (hm c).1]; exact block_cols_at (φ := .f32) _ _ c r k
    · rw [winB_at]; exact (congrFun (hm c).2.1 _).trans (block_rows_at (φ := .f32) _ _ c k j)
    · rw [winB_at]; exact (congrFun (hm c).2.2.2.1 _).trans (block_rows_at (φ := .f32) _ _ c k j)
    · rw [winB_at]; exact (congrFun (hm c).2.2.2.2.2.1 _).trans (block_rows_at (φ := .f32) _ _ c k j)
    · rw [woutB_at]; exact (congrFun (hm c).2.2.1 _).trans (block_cols_at (φ := .f32) _ _ c k j)
    · rw [woutB_at]; exact (congrFun (hm c).2.2.2.2.1 _).trans (block_cols_at (φ := .f32) _ _ c k j)
    · rw [woutB_at]; exact (congrFun (hm c).2.2.2.2.2.2 _).trans (block_cols_at (φ := .f32) _ _ c k j)
  · exact (θ_run Cert.ReferenceIdeal.defs _ _).mono (fun _ h => h 0) (Cert.ReferenceIdeal.Value.run (F := Ideal) m' ρ')

end Cert.Mlp

end
-- ==== Proof.lean ====
/-
The certificate: the facts that the programs state, then the claims, each from its module.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mlp.frame_kernel, Cert.Mlp.frame_ideal,
  Cert.Mlp.frame_reference, trivial, Cert.Mlp.same_value⟩

end Cert.Proof

end
